-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x16 : Shape := ⟨2, ![16384, 16]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel

variable [Facts]

def fn {F : FTy → Type} [FloatOps F] (main_arg0 : FVec F S16384x16 .f32) : IVec S_ 1 :=
  let main_v0 : FVec F S16384x16 .f32 := Host.absf main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  main_v3
-- ==== Kernel.lean ====
abbrev S16384x16 : Shape := ⟨2, ![16384, 16]⟩
abbrev S262144 : Shape := ⟨1, ![262144]⟩
abbrev S32768 : Shape := ⟨1, ![32768]⟩
abbrev S8192 : Shape := ⟨1, ![8192]⟩
abbrev S1024 : Shape := ⟨1, ![1024]⟩
abbrev S_ : Shape := ⟨0, ![]⟩
abbrev S16 : Shape := ⟨1, ![16]⟩
abbrev S16384x2 : Shape := ⟨2, ![16384, 2]⟩

abbrev nBuf : Table → Nat
  | .hbm => 4
  | .local .scVector .vmem => 2
  | _ => 0

abbrev bufTy : (tb : Table) → Fin (nBuf tb) → BufTy
  | .hbm, ⟨0, _⟩ => ⟨S16384x16, .f32⟩
  | .hbm, ⟨1, _⟩ => ⟨S262144, .f32⟩
  | .hbm, ⟨2, _⟩ => ⟨S32768, .f32⟩
  | .hbm, ⟨3, _⟩ => ⟨S16384x2, .f32⟩
  | .local .scVector .vmem, ⟨0, _⟩ => ⟨S8192, .f32⟩
  | .local .scVector .vmem, ⟨1, _⟩ => ⟨S1024, .f32⟩
  | _, _ => ⟨S16384x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c16_i32 : BitVec 32 := 16#32
  let v3 : BitVec 32 := Scalar.muli v2 c16_i32
  ![v3.toNat]
@[reducible] def k0_t1_loop : Scf.Loop 32 :=
  let c0_i32_1 : BitVec 32 := 0#32
  let c32_i32 : BitVec 32 := 32#32
  let v7 : BitVec 32 := Scalar.addi c0_i32_1 c32_i32
  let c1_i32 : BitVec 32 := 1#32
  ⟨c0_i32_1, v7, c1_i32⟩

def k0_chk1 (v14 : IVec S16 32) : Prop :=
  (∀ a x, ((![v14] : Fin 1 → IVec S16 32) a x).toNat < S8192.size a)
theorem k0_idx1_inb : ∀ (v14 : IVec S16 32) (k0_hw1 : k0_chk1 v14), ∀ a x, ((![v14] : Fin 1 → IVec S16 32) a x).toNat < S8192.size a := fun v14 k0_hw1 => k0_hw1

def k0_chk2 (v17 : IVec S16 32) : Prop :=
  (∀ a x, ((![v17] : Fin 1 → IVec S16 32) a x).toNat < S8192.size a)
theorem k0_idx2_inb : ∀ (v17 : IVec S16 32) (k0_hw2 : k0_chk2 v17), ∀ a x, ((![v17] : Fin 1 → IVec S16 32) a x).toNat < S8192.size a := fun v17 k0_hw2 => k0_hw2

def k0_chk3 (v20 : IVec S16 32) : Prop :=
  (∀ a x, ((![v20] : Fin 1 → IVec S16 32) a x).toNat < S8192.size a)
theorem k0_idx3_inb : ∀ (v20 : IVec S16 32) (k0_hw3 : k0_chk3 v20), ∀ a x, ((![v20] : Fin 1 → IVec S16 32) a x).toNat < S8192.size a := fun v20 k0_hw3 => k0_hw3

def k0_chk4 (v23 : IVec S16 32) : Prop :=
  (∀ a x, ((![v23] : Fin 1 → IVec S16 32) a x).toNat < S8192.size a)
theorem k0_idx4_inb : ∀ (v23 : IVec S16 32) (k0_hw4 : k0_chk4 v23), ∀ a x, ((![v23] : Fin 1 → IVec S16 32) a x).toNat < S8192.size a := fun v23 k0_hw4 => k0_hw4

def k0_chk5 (v26 : IVec S16 32) : Prop :=
  (∀ a x, ((![v26] : Fin 1 → IVec S16 32) a x).toNat < S8192.size a)
theorem k0_idx5_inb : ∀ (v26 : IVec S16 32) (k0_hw5 : k0_chk5 v26), ∀ a x, ((![v26] : Fin 1 → IVec S16 32) a x).toNat < S8192.size a := fun v26 k0_hw5 => k0_hw5

def k0_chk6 (v29 : IVec S16 32) : Prop :=
  (∀ a x, ((![v29] : Fin 1 → IVec S16 32) a x).toNat < S8192.size a)
theorem k0_idx6_inb : ∀ (v29 : IVec S16 32) (k0_hw6 : k0_chk6 v29), ∀ a x, ((![v29] : Fin 1 → IVec S16 32) a x).toNat < S8192.size a := fun v29 k0_hw6 => k0_hw6

def k0_chk7 (v32 : IVec S16 32) : Prop :=
  (∀ a x, ((![v32] : Fin 1 → IVec S16 32) a x).toNat < S8192.size a)
theorem k0_idx7_inb : ∀ (v32 : IVec S16 32) (k0_hw7 : k0_chk7 v32), ∀ a x, ((![v32] : Fin 1 → IVec S16 32) a x).toNat < S8192.size a := fun v32 k0_hw7 => k0_hw7

def k0_chk8 (v35 : IVec S16 32) : Prop :=
  (∀ a x, ((![v35] : Fin 1 → IVec S16 32) a x).toNat < S8192.size a)
theorem k0_idx8_inb : ∀ (v35 : IVec S16 32) (k0_hw8 : k0_chk8 v35), ∀ a x, ((![v35] : Fin 1 → IVec S16 32) a x).toNat < S8192.size a := fun v35 k0_hw8 => k0_hw8

def k0_chk9 (v38 : IVec S16 32) : Prop :=
  (∀ a x, ((![v38] : Fin 1 → IVec S16 32) a x).toNat < S8192.size a)
theorem k0_idx9_inb : ∀ (v38 : IVec S16 32) (k0_hw9 : k0_chk9 v38), ∀ a x, ((![v38] : Fin 1 → IVec S16 32) a x).toNat < S8192.size a := fun v38 k0_hw9 => k0_hw9

def k0_chk10 (v41 : IVec S16 32) : Prop :=
  (∀ a x, ((![v41] : Fin 1 → IVec S16 32) a x).toNat < S8192.size a)
theorem k0_idx10_inb : ∀ (v41 : IVec S16 32) (k0_hw10 : k0_chk10 v41), ∀ a x, ((![v41] : Fin 1 → IVec S16 32) a x).toNat < S8192.size a := fun v41 k0_hw10 => k0_hw10

def k0_chk11 (v44 : IVec S16 32) : Prop :=
  (∀ a x, ((![v44] : Fin 1 → IVec S16 32) a x).toNat < S8192.size a)
theorem k0_idx11_inb : ∀ (v44 : IVec S16 32) (k0_hw11 : k0_chk11 v44), ∀ a x, ((![v44] : Fin 1 → IVec S16 32) a x).toNat < S8192.size a := fun v44 k0_hw11 => k0_hw11

def k0_chk12 (v47 : IVec S16 32) : Prop :=
  (∀ a x, ((![v47] : Fin 1 → IVec S16 32) a x).toNat < S8192.size a)
theorem k0_idx12_inb : ∀ (v47 : IVec S16 32) (k0_hw12 : k0_chk12 v47), ∀ a x, ((![v47] : Fin 1 → IVec S16 32) a x).toNat < S8192.size a := fun v47 k0_hw12 => k0_hw12

def k0_chk13 (v50 : IVec S16 32) : Prop :=
  (∀ a x, ((![v50] : Fin 1 → IVec S16 32) a x).toNat < S8192.size a)
theorem k0_idx13_inb : ∀ (v50 : IVec S16 32) (k0_hw13 : k0_chk13 v50), ∀ a x, ((![v50] : Fin 1 → IVec S16 32) a x).toNat < S8192.size a := fun v50 k0_hw13 => k0_hw13

def k0_chk14 (v53 : IVec S16 32) : Prop :=
  (∀ a x, ((![v53] : Fin 1 → IVec S16 32) a x).toNat < S8192.size a)
theorem k0_idx14_inb : ∀ (v53 : IVec S16 32) (k0_hw14 : k0_chk14 v53), ∀ a x, ((![v53] : Fin 1 → IVec S16 32) a x).toNat < S8192.size a := fun v53 k0_hw14 => k0_hw14

def k0_chk15 (v56 : IVec S16 32) : Prop :=
  (∀ a x, ((![v56] : Fin 1 → IVec S16 32) a x).toNat < S8192.size a)
theorem k0_idx15_inb : ∀ (v56 : IVec S16 32) (k0_hw15 : k0_chk15 v56), ∀ a x, ((![v56] : Fin 1 → IVec S16 32) a x).toNat < S8192.size a := fun v56 k0_hw15 => k0_hw15

def k0_chk16 (v59 : IVec S16 32) : Prop :=
  (∀ a x, ((![v59] : Fin 1 → IVec S16 32) a x).toNat < S8192.size a)
theorem k0_idx16_inb : ∀ (v59 : IVec S16 32) (k0_hw16 : k0_chk16 v59), ∀ a x, ((![v59] : Fin 1 → IVec S16 32) a x).toNat < S8192.size a := fun v59 k0_hw16 => k0_hw16

def k0_chk17 (v82 : IVec S16 32) : Prop :=
  (∀ a x, ((![v82] : Fin 1 → IVec S16 32) a x).toNat < S1024.size a)
theorem k0_idx17_inb : ∀ (v82 : IVec S16 32) (k0_hw17 : k0_chk17 v82), ∀ a x, ((![v82] : Fin 1 → IVec S16 32) a x).toNat < S1024.size a := fun v82 k0_hw17 => k0_hw17

def k0_chk18 (v99 : IVec S16 32) : Prop :=
  (∀ a x, ((![v99] : Fin 1 → IVec S16 32) a x).toNat < S1024.size a)
theorem k0_idx18_inb : ∀ (v99 : IVec S16 32) (k0_hw18 : k0_chk18 v99), ∀ a x, ((![v99] : Fin 1 → IVec S16 32) a x).toNat < S1024.size a := fun v99 k0_hw18 => k0_hw18
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_3 : BitVec 32 := 512#32
  let v8 : BitVec 32 := Scalar.muli v1 c512_i32_3
  let c2_i32_4 : BitVec 32 := 2#32
  let v9 : BitVec 32 := Scalar.muli v8 c2_i32_4
  ![v9.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x16 : Shape := ⟨2, ![16384, 16]⟩
abbrev S8 : Shape := ⟨1, ![8]⟩
abbrev S_ : Shape := ⟨0, ![]⟩
abbrev S8x1 : Shape := ⟨2, ![8, 1]⟩
abbrev S1 : Shape := ⟨1, ![1]⟩
abbrev S1x1 : Shape := ⟨2, ![1, 1]⟩
abbrev S16384x8 : Shape := ⟨2, ![16384, 8]⟩
abbrev S16384 : Shape := ⟨1, ![16384]⟩
abbrev S1x16384 : Shape := ⟨2, ![1, 16384]⟩
abbrev S2x16384 : Shape := ⟨2, ![2, 16384]⟩
abbrev S16384x2 : Shape := ⟨2, ![16384, 2]⟩

abbrev nBuf : Space → Nat
  | .hbm => 111
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S8, .i32⟩
  | .hbm, ⟨2, _⟩ => ⟨S8, .i32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S1, .i32⟩
  | .hbm, ⟨14, _⟩ => ⟨S_, .i32⟩
  | .hbm, ⟨15, _⟩ => ⟨S8x1, .i32⟩
  | .hbm, ⟨16, _⟩ => ⟨S8x1, .i1⟩
  | .hbm, ⟨17, _⟩ => ⟨S1x1, .i32⟩
  | .hbm, ⟨18, _⟩ => ⟨S8x1, .i32⟩
  | .hbm, ⟨19, _⟩ => ⟨S8x1, .i1⟩
  | .hbm, ⟨20, _⟩ => ⟨S8x1, .i1⟩
  | .hbm, ⟨21, _⟩ => ⟨S_, .i1⟩
  | .hbm, ⟨22, _⟩ => ⟨S8, .i1⟩
  | .hbm, ⟨23, _⟩ => ⟨S16384x8, .f32⟩
  | .hbm, ⟨24, _⟩ => ⟨S16384x8, .i1⟩
  | .hbm, ⟨25, _⟩ => ⟨S_, .f32⟩
  | .hbm, ⟨26, _⟩ => ⟨S16384x8, .f32⟩
  | .hbm, ⟨27, _⟩ => ⟨S16384x8, .f32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S8x1, .i32⟩
  | .hbm, ⟨36, _⟩ => ⟨S1, .i32⟩
  | .hbm, ⟨37, _⟩ => ⟨S_, .i32⟩
  | .hbm, ⟨38, _⟩ => ⟨S8x1, .i32⟩
  | .hbm, ⟨39, _⟩ => ⟨S8x1, .i1⟩
  | .hbm, ⟨40, _⟩ => ⟨S1x1, .i32⟩
  | .hbm, ⟨41, _⟩ => ⟨S8x1, .i32⟩
  | .hbm, ⟨42, _⟩ => ⟨S8x1, .i1⟩
  | .hbm, ⟨43, _⟩ => ⟨S8x1, .i1⟩
  | .hbm, ⟨44, _⟩ => ⟨S_, .i1⟩
  | .hbm, ⟨45, _⟩ => ⟨S8, .i1⟩
  | .hbm, ⟨46, _⟩ => ⟨S16384x8, .f32⟩
  | .hbm, ⟨47, _⟩ => ⟨S16384x8, .i1⟩
  | .hbm, ⟨48, _⟩ => ⟨S_, .f32⟩
  | .hbm, ⟨49, _⟩ => ⟨S16384x8, .f32⟩
  | .hbm, ⟨50, _⟩ => ⟨S16384x8, .f32⟩
  | .hbm, ⟨51, _⟩ => ⟨S_, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .i32⟩
  | .hbm, ⟨57, _⟩ => ⟨S8, .i32⟩
  | .hbm, ⟨58, _⟩ => ⟨S8, .i1⟩
  | .hbm, ⟨59, _⟩ => ⟨S_, .i32⟩
  | .hbm, ⟨60, _⟩ => ⟨S8, .i32⟩
  | .hbm, ⟨61, _⟩ => ⟨S8, .i32⟩
  | .hbm, ⟨62, _⟩ => ⟨S8, .i32⟩
  | .hbm, ⟨63, _⟩ => ⟨S8x1, .i32⟩
  | .hbm, ⟨64, _⟩ => ⟨S1, .i32⟩
  | .hbm, ⟨65, _⟩ => ⟨S_, .i32⟩
  | .hbm, ⟨66, _⟩ => ⟨S8x1, .i32⟩
  | .hbm, ⟨67, _⟩ => ⟨S8x1, .i1⟩
  | .hbm, ⟨68, _⟩ => ⟨S1x1, .i32⟩
  | .hbm, ⟨69, _⟩ => ⟨S8x1, .i32⟩
  | .hbm, ⟨70, _⟩ => ⟨S8x1, .i1⟩
  | .hbm, ⟨71, _⟩ => ⟨S8x1, .i1⟩
  | .hbm, ⟨72, _⟩ => ⟨S_, .i1⟩
  | .hbm, ⟨73, _⟩ => ⟨S8, .i1⟩
  | .hbm, ⟨74, _⟩ => ⟨S16384x8, .f32⟩
  | .hbm, ⟨75, _⟩ => ⟨S16384x8, .i1⟩
  | .hbm, ⟨76, _⟩ => ⟨S_, .f32⟩
  | .hbm, ⟨77, _⟩ => ⟨S16384x8, .f32⟩
  | .hbm, ⟨78, _⟩ => ⟨S16384x8, .f32⟩
  | .hbm, ⟨79, _⟩ => ⟨S_, .i32⟩
  | .hbm, ⟨80, _⟩ => ⟨S8, .i32⟩
  | .hbm, ⟨81, _⟩ => ⟨S8, .i1⟩
  | .hbm, ⟨82, _⟩ => ⟨S_, .i32⟩
  | .hbm, ⟨83, _⟩ => ⟨S8, .i32⟩
  | .hbm, ⟨84, _⟩ => ⟨S8, .i32⟩
  | .hbm, ⟨85, _⟩ => ⟨S8, .i32⟩
  | .hbm, ⟨86, _⟩ => ⟨S8x1, .i32⟩
  | .hbm, ⟨87, _⟩ => ⟨S1, .i32⟩
  | .hbm, ⟨88, _⟩ => ⟨S_, .i32⟩
  | .hbm, ⟨89, _⟩ => ⟨S8x1, .i32⟩
  | .hbm, ⟨90, _⟩ => ⟨S8x1, .i1⟩
  | .hbm, ⟨91, _⟩ => ⟨S1x1, .i32⟩
  | .hbm, ⟨92, _⟩ => ⟨S8x1, .i32⟩
  | .hbm, ⟨93, _⟩ => ⟨S8x1, .i1⟩
  | .hbm, ⟨94, _⟩ => ⟨S8x1, .i1⟩
  | .hbm, ⟨95, _⟩ => ⟨S_, .i1⟩
  | .hbm, ⟨96, _⟩ => ⟨S8, .i1⟩
  | .hbm, ⟨97, _⟩ => ⟨S16384x8, .f32⟩
  | .hbm, ⟨98, _⟩ => ⟨S16384x8, .i1⟩
  | .hbm, ⟨99, _⟩ => ⟨S_, .f32⟩
  | .hbm, ⟨100, _⟩ => ⟨S16384x8, .f32⟩
  | .hbm, ⟨101, _⟩ => ⟨S16384x8, .f32⟩
  | .hbm, ⟨102, _⟩ => ⟨S_, .f32⟩
  | .hbm, ⟨103, _⟩ => ⟨S16384, .f32⟩
  | .hbm, ⟨104, _⟩ => ⟨S_, .f32⟩
  | .hbm, ⟨105, _⟩ => ⟨S16384, .f32⟩
  | .hbm, ⟨106, _⟩ => ⟨S16384, .f32⟩
  | .hbm, ⟨107, _⟩ => ⟨S1x16384, .f32⟩
  | .hbm, ⟨108, _⟩ => ⟨S1x16384, .f32⟩
  | .hbm, ⟨109, _⟩ => ⟨S2x16384, .f32⟩
  | .hbm, ⟨110, _⟩ => ⟨S16384x2, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_cst : Ref sig .tc := ⟨.hbm, 51, rfl⟩
abbrev main_v2 : Ref sig .tc := ⟨.hbm, 52, rfl⟩
abbrev main_cst_3 : Ref sig .tc := ⟨.hbm, 53, rfl⟩
abbrev main_v3 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v6 : Ref sig .tc := ⟨.hbm, 101, rfl⟩
abbrev main_cst_4 : Ref sig .tc := ⟨.hbm, 102, rfl⟩
abbrev main_v7 : Ref sig .tc := ⟨.hbm, 103, rfl⟩
abbrev main_cst_5 : Ref sig .tc := ⟨.hbm, 104, rfl⟩
abbrev main_v8 : Ref sig .tc := ⟨.hbm, 105, rfl⟩
abbrev main_v9 : Ref sig .tc := ⟨.hbm, 106, rfl⟩
abbrev main_v10 : Ref sig .tc := ⟨.hbm, 107, rfl⟩
abbrev main_v11 : Ref sig .tc := ⟨.hbm, 108, rfl⟩
abbrev main_v12 : Ref sig .tc := ⟨.hbm, 109, rfl⟩
abbrev main_v13 : Ref sig .tc := ⟨.hbm, 110, rfl⟩

abbrev nD : Nat := 1
abbrev τ : Topo := Topo.v7x

variable {F : FTy → Type} [FloatOps F]
-- ==== Proof.Decode.lean ====
/-
  The value the kernel computes, as a plain function, and what one trip of its loop does to it.

  A row of the input has sixteen entries; the result has two entries per row, `comp0` and `comp1` of the row. Over flat
  arrays — `R` rows laid out one after another — `decode` is that function. The kernel's loop takes sixteen rows at a
  time: it gathers column `j` of the sixteen rows into one vector for each `j`, combines the columns lane by lane and
  scatters the two combinations to the even and odd places of the result. `trip` says that such a trip extends the
  decoded prefix of the result by the sixteen rows. Nothing here is about a particular program.
-/
module

public import Idealize.ShloMosaic.PureOps

@[expose] public section

noncomputable section

namespace Cert.Proof.Decode

open Idealize.ShloMosaic

variable {F : FTy → Type} [FloatOps F]

/-- The first result of a row `c`: with `T₀, T₁, T₂, T₃` the sums of its four groups of four entries,
    `(T₀ − T₁) + (T₃ − T₂)`, each sum taken pairwise. -/
def comp0 (c : Fin 16 → F .f32) : F .f32 :=
  FloatOps.addf
    (FloatOps.subf (FloatOps.addf (FloatOps.addf (c 0) (c 1)) (FloatOps.addf (c 2) (c 3)))
      (FloatOps.addf (FloatOps.addf (c 4) (c 5)) (FloatOps.addf (c 6) (c 7))))
    (FloatOps.subf (FloatOps.addf (FloatOps.addf (c 12) (c 13)) (FloatOps.addf (c 14) (c 15)))
      (FloatOps.addf (FloatOps.addf (c 8) (c 9)) (FloatOps.addf (c 10) (c 11))))

/-- The second result of a row `c`: the sum over its four groups of `(c₀ − c₁) + (c₃ − c₂)`, taken pairwise. -/
def comp1 (c : Fin 16 → F .f32) : F .f32 :=
  FloatOps.addf
    (FloatOps.addf (FloatOps.addf (FloatOps.subf (c 0) (c 1)) (FloatOps.subf (c 3) (c 2)))
      (FloatOps.addf (FloatOps.subf (c 4) (c 5)) (FloatOps.subf (c 7) (c 6))))
    (FloatOps.addf (FloatOps.addf (FloatOps.subf (c 8) (c 9)) (FloatOps.subf (c 11) (c 10)))
      (FloatOps.addf (FloatOps.subf (c 12) (c 13)) (FloatOps.subf (c 15) (c 14))))

/-- The result of a row at position `i`: `comp0` at position zero, `comp1` otherwise. -/
def comp (i : ℕ) (c : Fin 16 → F .f32) : F .f32 := if i = 0 then comp0 c else comp1 c

/-- Position `n` of a one-axis array of `N` elements. -/
abbrev pos {N : ℕ} (n : ℕ) (h : n < N) : (⟨1, ![N]⟩ : Shape).Idx := Shape.ofLane (d := ![N]) ⟨n, h⟩

omit [FloatOps F] in
/-- A position is its number. -/
theorem pos_eta {N : ℕ} (p : (⟨1, ![N]⟩ : Shape).Idx) (h : (p 0).val < N) : pos (p 0).val h = p := by
  funext a; obtain rfl : a = 0 := Subsingleton.elim _ _; rfl

/-- Row `r` of a flat array of `R` rows of sixteen. -/
def rowOf {R N : ℕ} (hN : N = 16 * R) (x : Vec F ⟨1, ![N]⟩ .f32) (r : ℕ) (h : r < R) : Fin 16 → F .f32 :=
  fun j => x (pos (16 * r + j.val) (by have := j.isLt; omega))

/-- The flat result of a flat array of `R` rows: at `2 r + i`, result `i` of row `r`. -/
def decode {R N M : ℕ} (hN : N = 16 * R) (hM : M = 2 * R) (x : Vec F ⟨1, ![N]⟩ .f32) : Vec F ⟨1, ![M]⟩ .f32 :=
  fun p => comp ((p 0).val % 2) (rowOf hN x ((p 0).val / 2) (by
    have h : (p 0).val < M := (p 0).isLt
    omega))

/-- Decoding commutes with taking a stretch of whole rows: if `y` is the `R'` rows of `x` from row `o` on, then the
    decoding of `y` is the decoding of `x` from place `2 o` on. -/
theorem decode_stretch {R N M R' N' M' : ℕ} (hN : N = 16 * R) (hM : M = 2 * R) (hN' : N' = 16 * R') (hM' : M' = 2 * R')
    (x : Vec F ⟨1, ![N]⟩ .f32) (y : Vec F ⟨1, ![N']⟩ .f32) (o : ℕ) (ho : o + R' ≤ R)
    (hy : ∀ n (h : n < N'), y (pos n h) = x (pos (16 * o + n) (by omega))) (n : ℕ) (h : n < M') :
    decode hN' hM' y (pos n h) = decode hN hM x (pos (2 * o + n) (by omega)) := by
  have e : ∀ (n₁ n₂ : ℕ) (h₁ : n₁ < N) (h₂ : n₂ < N), n₁ = n₂ → x (pos n₁ h₁) = x (pos n₂ h₂) := fun _ _ _ _ q => by subst q; rfl
  show comp (n % 2) _ = comp ((2 * o + n) % 2) _
  rw [show (2 * o + n) % 2 = n % 2 by omega]
  congr 1
  funext j
  unfold rowOf
  rw [hy]
  refine e _ _ _ _ ?_
  show 16 * o + (16 * (n / 2) + j.val) = 16 * ((2 * o + n) / 2) + j.val
  omega

/-! ## The indexed store of distinct lanes -/

omit [FloatOps F] in
/-- A fold of one-place updates leaves a place none of the updates names as it was. -/
theorem foldl_miss {ι α β : Type} (P : ι → α → Prop) [∀ k j, Decidable (P k j)] (v : ι → β) (l : List ι) (f : α → β) (j : α)
    (h : ∀ k ∈ l, ¬ P k j) : (l.foldl (fun g k => fun j => if P k j then v k else g j) f) j = f j := by
  induction l generalizing f with
  | nil => rfl
  | cons k l ih =>
    rw [List.foldl_cons, ih _ fun k' hk' => h k' (List.mem_cons_of_mem _ hk')]
    exact if_neg (h k List.mem_cons_self)

omit [FloatOps F] in
/-- A fold of one-place updates leaves, at a place exactly one of them names, that update's value. -/
theorem foldl_hit {ι α β : Type} (P : ι → α → Prop) [∀ k j, Decidable (P k j)] (v : ι → β) (l : List ι) (f : α → β) (j : α) (k : ι)
    (hk : k ∈ l) (hP : P k j) (h : ∀ k' ∈ l, P k' j → k' = k) :
    (l.foldl (fun g k => fun j => if P k j then v k else g j) f) j = v k := by
  induction l generalizing f with
  | nil => exact absurd hk List.not_mem_nil
  | cons a l ih =>
    rw [List.foldl_cons]
    by_cases hl : k ∈ l
    · exact ih _ hl fun k' hk' => h k' (List.mem_cons_of_mem _ hk')
    · obtain rfl : k = a := by
        rcases List.mem_cons.mp hk with e | e
        · exact e
        · exact absurd e hl
      rw [foldl_miss P v l _ j fun k' hk' hP' => hl (h k' (List.mem_cons_of_mem _ hk') hP' ▸ hk')]
      exact if_pos hP

/-- The unmasked indexed store over a one-axis buffer, as a fold of one-place updates. -/
theorem storeIdx_eq_foldl {M n : ℕ} (g : Vec F ⟨1, ![M]⟩ .f32) (ix : IVec ⟨1, ![n]⟩ 32) (v : Vec F ⟨1, ![n]⟩ .f32)
    (h : ∀ a x, ((![ix] : Fin 1 → IVec ⟨1, ![n]⟩ 32) a x).toNat < (⟨1, ![M]⟩ : Shape).size a) :
    storeIdx g (![ix] : Fin 1 → IVec ⟨1, ![n]⟩ 32) v (fun _ => 1#1) false h
      = (List.finRange n).foldl (fun g k => fun j => if (∀ a, (j a).val = (idxAt (![ix] : Fin 1 → IVec ⟨1, ![n]⟩ 32) h (Shape.ofLane k) a).val)
          then v (Shape.ofLane k) else g j) g := rfl

/-- The places lane `k` names: `p` is that of lane `k` exactly when the index vector's word at `k` is `p`. -/
theorem names_iff {M n : ℕ} (ix : IVec ⟨1, ![n]⟩ 32) (h : ∀ a x, ((![ix] : Fin 1 → IVec ⟨1, ![n]⟩ 32) a x).toNat < (⟨1, ![M]⟩ : Shape).size a)
    (k : Fin n) (p : (⟨1, ![M]⟩ : Shape).Idx) :
    (∀ a, (p a).val = (idxAt (![ix] : Fin 1 → IVec ⟨1, ![n]⟩ 32) h (Shape.ofLane k) a).val) ↔ (p 0).val = (ix (pos k.val k.isLt)).toNat := by
  constructor
  · intro q; exact q 0
  · intro q a; obtain rfl : a = 0 := Subsingleton.elim _ _; exact q

/-- An indexed store leaves a place no lane names as it was. -/
theorem storeIdx_miss {M n : ℕ} (g : Vec F ⟨1, ![M]⟩ .f32) (ix : IVec ⟨1, ![n]⟩ 32) (v : Vec F ⟨1, ![n]⟩ .f32)
    (h : ∀ a x, ((![ix] : Fin 1 → IVec ⟨1, ![n]⟩ 32) a x).toNat < (⟨1, ![M]⟩ : Shape).size a) (p : (⟨1, ![M]⟩ : Shape).Idx)
    (hp : ∀ k (hk : k < n), (p 0).val ≠ (ix (pos k hk)).toNat) :
    storeIdx g (![ix] : Fin 1 → IVec ⟨1, ![n]⟩ 32) v (fun _ => 1#1) false h p = g p := by
  rw [storeIdx_eq_foldl]
  exact foldl_miss _ (fun k : Fin n => v (Shape.ofLane k)) _ _ _ fun k _ q => hp k.val k.isLt ((names_iff ix h k p).mp q)

/-- An indexed store leaves, at a place exactly one lane names, that lane's value. -/
theorem storeIdx_hit {M n : ℕ} (g : Vec F ⟨1, ![M]⟩ .f32) (ix : IVec ⟨1, ![n]⟩ 32) (v : Vec F ⟨1, ![n]⟩ .f32)
    (h : ∀ a x, ((![ix] : Fin 1 → IVec ⟨1, ![n]⟩ 32) a x).toNat < (⟨1, ![M]⟩ : Shape).size a) (p : (⟨1, ![M]⟩ : Shape).Idx)
    (k : ℕ) (hk : k < n) (hp : (p 0).val = (ix (pos k hk)).toNat) (hu : ∀ k' (hk' : k' < n), (p 0).val = (ix (pos k' hk')).toNat → k' = k) :
    storeIdx g (![ix] : Fin 1 → IVec ⟨1, ![n]⟩ 32) v (fun _ => 1#1) false h p = v (pos k hk) := by
  rw [storeIdx_eq_foldl]
  exact foldl_hit _ (fun k : Fin n => v (Shape.ofLane k)) _ _ _ (⟨k, hk⟩ : Fin n) (List.mem_finRange _) ((names_iff ix h _ p).mpr hp)
    fun k' _ q => Fin.ext (hu k'.val k'.isLt ((names_iff ix h k' p).mp q))

/-! ## One trip -/

/-- Trip `t`: if the result buffer `g` holds the decoding at every place before `32 t`, and the even and odd stores write the
    two results of rows `16 t, …, 16 t + 15` at places `2 k + 32 t` and `2 k + 32 t + 1`, then what they leave holds the decoding at every
    place before `32 (t + 1)`. -/
theorem trip {R N M : ℕ} (hN : N = 16 * R) (hM : M = 2 * R) (x : Vec F ⟨1, ![N]⟩ .f32) (g : Vec F ⟨1, ![M]⟩ .f32) (t : ℕ) (ht : 16 * t + 16 ≤ R)
    (hg : ∀ p, (p 0).val < 32 * t → g p = decode hN hM x p)
    (ix0 ix1 : IVec ⟨1, ![16]⟩ 32) (v0 v1 : Vec F ⟨1, ![16]⟩ .f32)
    (h0 : ∀ a x, ((![ix0] : Fin 1 → IVec ⟨1, ![16]⟩ 32) a x).toNat < (⟨1, ![M]⟩ : Shape).size a)
    (h1 : ∀ a x, ((![ix1] : Fin 1 → IVec ⟨1, ![16]⟩ 32) a x).toNat < (⟨1, ![M]⟩ : Shape).size a)
    (e0 : ∀ k (hk : k < 16), (ix0 (pos k hk)).toNat = 2 * k + 32 * t) (e1 : ∀ k (hk : k < 16), (ix1 (pos k hk)).toNat = 2 * k + 32 * t + 1)
    (hv0 : ∀ k (hk : k < 16), v0 (pos k hk) = comp0 (rowOf hN x (16 * t + k) (by omega)))
    (hv1 : ∀ k (hk : k < 16), v1 (pos k hk) = comp1 (rowOf hN x (16 * t + k) (by omega))) :
    ∀ p, (p 0).val < 32 * (t + 1) →
      storeIdx (storeIdx g (![ix0] : Fin 1 → IVec ⟨1, ![16]⟩ 32) v0 (fun _ => 1#1) false h0) (![ix1] : Fin 1 → IVec ⟨1, ![16]⟩ 32) v1 (fun _ => 1#1) false h1 p
        = decode hN hM x p := by
  have er : ∀ (r₁ r₂ : ℕ) (q₁ : r₁ < R) (q₂ : r₂ < R), r₁ = r₂ → rowOf hN x r₁ q₁ = rowOf hN x r₂ q₂ := fun _ _ _ _ q => by subst q; rfl
  intro p hp
  by_cases hold : (p 0).val < 32 * t
  · rw [storeIdx_miss _ _ _ _ _ fun k hk q => by rw [e1 k hk] at q; omega,
      storeIdx_miss _ _ _ _ _ fun k hk q => by rw [e0 k hk] at q; omega]
    exact hg p hold
  have hk : ((p 0).val - 32 * t) / 2 < 16 := by omega
  rcases Nat.mod_two_eq_zero_or_one (p 0).val with par | par
  · rw [storeIdx_miss _ _ _ _ _ fun k hk q => by rw [e1 k hk] at q; omega,
      storeIdx_hit _ _ _ _ _ (((p 0).val - 32 * t) / 2) hk (by rw [e0]; omega) fun k' hk' q => by rw [e0] at q; omega, hv0]
    unfold decode comp
    rw [if_pos par]
    exact congrArg comp0 (er _ _ _ _ (by omega))
  · rw [storeIdx_hit _ _ _ _ _ (((p 0).val - 32 * t) / 2) hk (by rw [e1]; omega) fun k' hk' q => by rw [e1] at q; omega, hv1]
    unfold decode comp
    rw [if_neg (by omega)]
    exact congrArg comp1 (er _ _ _ _ (by omega))

end Cert.Proof.Decode

end
-- ==== Proof.Words.lean ====
/-
  The index words of the kernel's loop. On trip `t` lane `k` reads places `16 k + 256 t + j` of the fetched rows, one for
  each column `j`, and writes places `2 k + 32 t + i` of the result, one for each result `i`. This module reads those
  words off the kernel's index vectors and says they lie inside the two scratch buffers.
-/
module

public import proofs.«01_k».proof.Proof.Decode
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Cert.Proof.Decode
open Idealize.ShloMosaic

/-- The loop runs at most thirty-two trips. -/
theorem trip_lt (t : Fin k0_t1_loop.trips) : t.val < 32 := lt_of_lt_of_le t.isLt k0_t1_abs.2.1

/-- The lane numbers. -/
abbrev lanes : IVec S16 32 := iota .scVector S16 32 [0] iota_S16_d0_w32_scVector

/-- Lane `k`'s number. -/
theorem lanes_word (k : ℕ) (hk : k < 16) : lanes (pos k hk) = BitVec.ofNat 32 k := by
  show BitVec.ofNat 32 (0 * _ + k) = _
  rw [Nat.zero_mul, Nat.zero_add]

/-- The word a column's index vector holds at lane `k`: the row's start, plus the column. -/
theorem col_word (t : Fin k0_t1_loop.trips) (j : BitVec 32) (hj : j.toNat < 16) (k : ℕ) (hk : k < 16) :
    (addi (k0_pay4 k0_pay1 0#32 1#32 t) (broadcast S16 j) (pos k hk)).toNat = 16 * (16 * t.val + k) + j.toNat := by
  have ht := trip_lt t
  show (lanes (pos k hk) * 16#32 + (0#32 + BitVec.ofNat 32 t.val * 1#32) * 256#32 + j).toNat = _
  rw [lanes_word]
  simp only [BitVec.toNat_add, BitVec.toNat_mul, BitVec.toNat_ofNat]
  omega

/-- A column's index words lie inside the fetched rows. -/
theorem col_inb (t : Fin k0_t1_loop.trips) (j : BitVec 32) (hj : j.toNat < 16) :
    ∀ a x, ((![addi (k0_pay4 k0_pay1 0#32 1#32 t) (broadcast S16 j)] : Fin 1 → IVec S16 32) a x).toNat < S8192.size a := by
  have ht := trip_lt t
  intro a x
  obtain rfl : a = 0 := Subsingleton.elim _ _
  have hk : (x 0).val < 16 := (x 0).isLt
  have e := col_word t j hj (x 0).val hk
  rw [pos_eta] at e
  show (addi (k0_pay4 k0_pay1 0#32 1#32 t) (broadcast S16 j) x).toNat < 8192
  omega

/-- The word a result's index vector holds at lane `k`: the row's first result, plus the result's number. -/
theorem res_word (t : Fin k0_t1_loop.trips) (i : BitVec 32) (hi : i.toNat < 2) (k : ℕ) (hk : k < 16) :
    (addi (k0_pay21 lanes (Scf.iv 0#32 1#32 t)) (broadcast S16 i) (pos k hk)).toNat = 2 * k + 32 * t.val + i.toNat := by
  have ht := trip_lt t
  show (lanes (pos k hk) * 2#32 + (0#32 + BitVec.ofNat 32 t.val * 1#32) * 32#32 + i).toNat = _
  rw [lanes_word]
  simp only [BitVec.toNat_add, BitVec.toNat_mul, BitVec.toNat_ofNat]
  omega

/-- A result's index words lie inside the result scratch. -/
theorem res_inb (t : Fin k0_t1_loop.trips) (i : BitVec 32) (hi : i.toNat < 2) :
    ∀ a x, ((![addi (k0_pay21 lanes (Scf.iv 0#32 1#32 t)) (broadcast S16 i)] : Fin 1 → IVec S16 32) a x).toNat < S1024.size a := by
  have ht := trip_lt t
  intro a x
  obtain rfl : a = 0 := Subsingleton.elim _ _
  have hk : (x 0).val < 16 := (x 0).isLt
  have e := res_word t i hi (x 0).val hk
  rw [pos_eta] at e
  show (addi (k0_pay21 lanes (Scf.iv 0#32 1#32 t)) (broadcast S16 i) x).toNat < 1024
  omega

/-- A gathered column at lane `k` is the column's entry of row `16 t + k` of the fetched rows. -/
theorem gather_col {F : FTy → Type} (x : Vec F S8192 .f32) (t : Fin k0_t1_loop.trips) (j : BitVec 32) (hj : j.toNat < 16)
    (h : ∀ a y, ((![addi (k0_pay4 k0_pay1 0#32 1#32 t) (broadcast S16 j)] : Fin 1 → IVec S16 32) a y).toNat < S8192.size a) (k : ℕ) (hk : k < 16)
    (hr : 16 * t.val + k < 512) :
    loadIdx x (![addi (k0_pay4 k0_pay1 0#32 1#32 t) (broadcast S16 j)] : Fin 1 → IVec S16 32) h (pos k hk)
      = rowOf (R := 512) (N := 8192) rfl x (16 * t.val + k) hr ⟨j.toNat, hj⟩ := by
  unfold loadIdx rowOf
  congr 1
  funext a
  obtain rfl : a = 0 := Subsingleton.elim _ _
  exact Fin.ext (col_word t j hj k hk)

end Cert.Proof.Words

end
-- ==== Proof.Parts.lean ====
/-
  One vector subcore's task. Subcore `s` of SparseCore `c` takes part `2 s + c` of the thirty-two equal parts of the flat input and of
  the flat result: it fetches its 512 rows, runs the thirty-two trips of the loop over them and writes its 1024 results
  out. `tile_body` says that, handed its part of the input at contents `X` and its part of the result, the task ends
  with the input unchanged and its part of the result at the decoding of `X`.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Parts

open Cert.KernelIdeal Cert.KernelIdeal.Gen
open Cert.Proof.Decode Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-! ## The buffers -/

/-- The flat input and the flat result, as locations of device `d`. -/
abbrev xLoc (d : Dev nD) : Loc nD τ sig := (SparseCore.T d).loc main_v0
abbrev oLoc (d : Dev nD) : Loc nD τ sig := (SparseCore.T d).loc main_v1

abbrev xV : Memref sig .scVector .hbm S262144 .f32 := Memref.whole main_v0_scv
abbrev oV : Memref sig .scVector .hbm S32768 .f32 := Memref.whole main_v1_scv
/-- A task's scratch: the fetched rows and their results. -/
abbrev sX : Memref sig .scVector .vmem S8192 .f32 := Memref.whole cc0_scratch0
abbrev sO : Memref sig .scVector .vmem S1024 .f32 := Memref.whole cc0_scratch1

/-- The flat argument divides into thirty-two. -/
theorem xdiv : 32 ∣ S262144.size 0 := ⟨8192, rfl⟩
/-- So does the flat result. -/
theorem odiv : 32 ∣ S32768.size 0 := ⟨1024, rfl⟩
/-- The elements of part `w` of the input and of the result. -/
abbrev xSet (w : Fin 32) : Finset S262144.Idx := (Rect.part (s := S262144) (a₀ := 0) xdiv w).set
abbrev oSet (w : Fin 32) : Finset S32768.Idx := (Rect.part (s := S32768) (a₀ := 0) odiv w).set

section Task

variable (d : Dev nD) (L : grid0.Coords)

abbrev cV (L : grid0.Coords) : Fin τ.nSC := (L 0).castLE hcore0
abbrev jV (L : grid0.Coords) : Fin τ.nSub := (L 1).castLE hsub0

/-- The part the task at grid coordinates `L` takes. -/
def wL (L : grid0.Coords) : Fin 32 := ⟨2 * (L 1).val + (L 0).val, by
  have h0 : (L 0).val < 2 := (L 0).isLt
  have h1 : (L 1).val < 16 := (L 1).isLt
  omega⟩

abbrev xRect (L : grid0.Coords) : Rect S262144 := Rect.unit (s := S262144) (k0_off1 L) S8192.size (k0_off1_inb L)
abbrev oRect (L : grid0.Coords) : Rect S32768 := Rect.unit (s := S32768) (k0_off2 L) S1024.size (k0_off2_inb L)
/-- The task's part of the input and of the result, as it slices them. -/
abbrev xPart (L : grid0.Coords) : Memref sig .scVector .hbm S8192 .f32 := (xV : Memref sig .scVector .hbm S262144 .f32).slice (xRect L) (fun _ => rfl)
abbrev oPart (L : grid0.Coords) : Memref sig .scVector .hbm S1024 .f32 := (oV : Memref sig .scVector .hbm S32768 .f32).slice (oRect L) (fun _ => rfl)

/-- The stretch that a subcore copies in is its part of the flat argument. -/
theorem xRect_eq : xRect L = Rect.part (s := S262144) (a₀ := 0) xdiv (wL L) := by
  unfold xRect Rect.part Rect.block
  congr 1 <;> funext a
  · rw [k0_off1_eq]
    obtain rfl : a = 0 := Subsingleton.elim _ _
    simp [Shape.partIx, Shape.partSize, wL]; omega
  · obtain rfl : a = 0 := Subsingleton.elim _ _
    simp [Shape.partSize]

/-- The stretch that it copies out is its part of the flat result. -/
theorem oRect_eq : oRect L = Rect.part (s := S32768) (a₀ := 0) odiv (wL L) := by
  unfold oRect Rect.part Rect.block
  congr 1 <;> funext a
  · rw [k0_off2_eq]
    obtain rfl : a = 0 := Subsingleton.elim _ _
    simp [Shape.partIx, Shape.partSize, wL]; omega
  · obtain rfl : a = 0 := Subsingleton.elim _ _
    simp [Shape.partSize]

/-- The same, of the places that the copy reads. -/
theorem set_xPart : (xPart L).view.set = xSet (wL L) := by
  show ((View.whole (main_v0_scv : Ref sig .scVector)).slice (xRect L)).set = _
  rw [View.set_slice, xRect_eq]; exact Finset.map_refl

/-- The same, of the places that the copy writes. -/
theorem set_oPart : (oPart L).view.set = oSet (wL L) := by
  show ((View.whole (main_v1_scv : Ref sig .scVector)).slice (oRect L)).set = _
  rw [View.set_slice, oRect_eq]; exact Finset.map_refl

/-- Holding the program's slice of the flat argument is holding the part. -/
theorem pts_xPart (f : Buf (Elt F) (xLoc d)) :
    ((xPart L).view.loc (V d (cV L) (jV L)) ↦[(xPart L).view.set]{fullShare} f : sProp 𝕄) = xLoc d ↦[xSet (wL L)]{fullShare} f := by
  rw [set_xPart]

/-- Holding the program's slice of the flat result is holding the part. -/
theorem pts_oPart (f : Buf (Elt F) (oLoc d)) :
    ((oPart L).view.loc (V d (cV L) (jV L)) ↦[(oPart L).view.set]{fullShare} f : sProp 𝕄) = oLoc d ↦[oSet (wL L)]{fullShare} f := by
  rw [set_oPart]

/-- The scratch of rows, as the program names it. -/
theorem pts_sX (f : Buf (Elt F) ((V d (cV L) (jV L)).loc cc0_scratch0)) :
    ((sX : Memref sig .scVector .vmem S8192 .f32).view.loc (V d (cV L) (jV L)) ↦{fullShare} f : sProp 𝕄) = (V d (cV L) (jV L)).loc cc0_scratch0 ↦{fullShare} f := rfl

/-- The scratch of results, as the program names it. -/
theorem pts_sO (f : Buf (Elt F) ((V d (cV L) (jV L)).loc cc0_scratch1)) :
    ((sO : Memref sig .scVector .vmem S1024 .f32).view.loc (V d (cV L) (jV L)) ↦{fullShare} f : sProp 𝕄) = (V d (cV L) (jV L)).loc cc0_scratch1 ↦{fullShare} f := rfl

/-! ## The task's scratch and semaphores among the subcore's own -/

abbrev cIn (L : grid0.Coords) : GSem nD τ sig := (V d (cV L) (jV L), .dma cc0_scoped0.sem)
abbrev cOut (L : grid0.Coords) : GSem nD τ sig := (V d (cV L) (jV L), .dma cc0_scoped1.sem)

/-- A subcore's own semaphores are the two of its copies. -/
theorem ownSems0_V :
    (ownSems0 (V d (cV L) (jV L)) : sProp 𝕄)
      = iprop(semVal (cIn d L) 0 ∗ semVal (cOut d L) 0
          ∗ bigSep (((ownCells (V d (cV L) (jV L))).erase (cIn d L)).erase (cOut d L)) fun g => semVal g 0) := by
  unfold SparseCore.Cfg.ownSems0
  rw [SparseCore.bigSep_erase' ((mem_ownCells (g := cIn d L)).mpr ⟨rfl, by
      show (SemLoc.dma cc0_scoped0.sem : SemLoc sig).isScoped .scVector = true; decide⟩),
    SparseCore.bigSep_erase' (Finset.mem_erase.mpr ⟨by simp [cIn, cOut]; decide, (mem_ownCells (g := cOut d L)).mpr ⟨rfl, by
      show (SemLoc.dma cc0_scoped1.sem : SemLoc sig).isScoped .scVector = true; decide⟩⟩)]

/-- A subcore's own buffers are its two scratch buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- The whole result the kernel leaves of a flat input. -/
def G {d : Dev nD} (x : Buf (Elt F) (xLoc d)) : Buf (Elt F) (oLoc d) := decode (F := F) (R := 16384) (N := 262144) (M := 32768) rfl rfl x

/-- Part `w` of the input at contents `f`, and of the result. -/
abbrev xPts (d : Dev nD) (w : Fin 32) (f : Buf (Elt F) (xLoc d)) : sProp 𝕄 := xLoc d ↦[xSet w]{fullShare} f
abbrev oPts (d : Dev nD) (w : Fin 32) (f : Buf (Elt F) (oLoc d)) : sProp 𝕄 := oLoc d ↦[oSet w]{fullShare} f

end Task

end Cert.Proof.Parts

end
-- ==== Proof.Trip.lean ====
/-
  One trip of a task's loop, run: with the fetched rows `y` in the first scratch and a result scratch that holds the
  decoding of `y` at every place before `32 t`, trip `t` ends with the same rows and a result scratch that holds it at every place
  before `32 (t + 1)`.
-/
module

public import proofs.«01_k».proof.Proof.Parts

@[expose] public section

noncomputable section

namespace Cert.Proof.Trip

open Cert.KernelIdeal Cert.KernelIdeal.Gen
open Cert.Proof.Decode Cert.Proof.Words Cert.Proof.Parts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The fetched rows, and the results, in the task's scratch. -/
abbrev rowsAt (y : Vec F S8192 .f32) : sProp 𝕄 := (sX : Memref sig .scVector .vmem S8192 .f32).view.loc (V d (cV L) (jV L)) ↦{fullShare} y
abbrev resAt (g : Vec F S1024 .f32) : sProp 𝕄 := (sO : Memref sig .scVector .vmem S1024 .f32).view.loc (V d (cV L) (jV L)) ↦{fullShare} g

/-- A checked gather from the fetched rows: its index words lie inside them, so the check passes and the gather reads the
    rows at those words. -/
theorem wp_gather {α : Type} {Q : α → sProp 𝕄} (y : Vec F S8192 .f32) {ix : IVec S16 32}
    (hix : ∀ a x, ((![ix] : Fin 1 → IVec S16 32) a x).toNat < S8192.size a)
    {dec : Decidable (∀ a x, ((![ix] : Fin 1 → IVec S16 32) a x).toNat < S8192.size a)} {hl : (sX : Memref sig .scVector .vmem S8192 .f32).view.Loads}
    {k : PLift (∀ a x, ((![ix] : Fin 1 → IVec S16 32) a x).toNat < S8192.size a) → Vec F S16 .f32 → Prog (TpuEff nD τ sig (Elt F) Λ₀ (V d (cV L) (jV L)).2) α} :
    rowsAt d L y ⊢ iprop((rowsAt d L y -∗ wp frame (wpE (defs₀ (F := F)) 𝒱₀ (V d (cV L) (jV L)) none) Set.univ (k ⟨hix⟩ (loadIdx y (![ix] : Fin 1 → IVec S16 32) hix)) Q)
      -∗ wp frame (wpE (defs₀ (F := F)) 𝒱₀ (V d (cV L) (jV L)) none) Set.univ
          (.op (.assume (∀ a x, ((![ix] : Fin 1 → IVec S16 32) a x).toNat < S8192.size a) dec) fun q =>
            SparseCore.vectorLoadIdx (sX : Memref sig .scVector .vmem S8192 .f32) (![ix] : Fin 1 → IVec S16 32) q.down hl >>= k q) Q) := by
  rw [wp_assume_of _ _ _ _ hix]
  have hS : ((sX : Memref sig .scVector .vmem S8192 .f32).access (.whole S8192)).set ⊆ Finset.univ := Finset.subset_univ _
  have e := SparseCore.wp_vectorLoadIdx (defs := defs₀ (F := F)) (Q := Q) 𝒱₀ (V d (cV L) (jV L)) none Set.univ (base := (sX : Memref sig .scVector .vmem S8192 .f32))
    (idxs := (![ix] : Fin 1 → IVec S16 32)) (h := hix) (hl := hl) (k := k ⟨hix⟩) (q := fullShare) (f := y) hS
  rw [show ((sX : Memref sig .scVector .vmem S8192 .f32).access (.whole S8192)).read (Elt F) y = y from Memref.read_access_whole (Elt F) (cc0_scratch0 : Ref sig .scVector) y] at e
  exact e

/-- A checked scatter into the results: its index words lie inside them, so the check passes and the scatter writes its
    values at those words. -/
theorem wp_scatter {α : Type} {Q : α → sProp 𝕄} (g : Vec F S1024 .f32) {ix : IVec S16 32} {v : Vec F S16 .f32}
    (hix : ∀ a x, ((![ix] : Fin 1 → IVec S16 32) a x).toNat < S1024.size a)
    {dec : Decidable (∀ a x, ((![ix] : Fin 1 → IVec S16 32) a x).toNat < S1024.size a)}
    {hs : ((sO : Memref sig .scVector .vmem S1024 .f32).access (.whole S1024)).Stores Finset.univ}
    {k : PLift (∀ a x, ((![ix] : Fin 1 → IVec S16 32) a x).toNat < S1024.size a) → PUnit → Prog (TpuEff nD τ sig (Elt F) Λ₀ (V d (cV L) (jV L)).2) α} :
    resAt d L g ⊢ iprop((resAt d L (storeIdx g (![ix] : Fin 1 → IVec S16 32) v (fun _ => 1#1) false hix)
        -∗ wp frame (wpE (defs₀ (F := F)) 𝒱₀ (V d (cV L) (jV L)) none) Set.univ (k ⟨hix⟩ ⟨⟩) Q)
      -∗ wp frame (wpE (defs₀ (F := F)) 𝒱₀ (V d (cV L) (jV L)) none) Set.univ
          (.op (.assume (∀ a x, ((![ix] : Fin 1 → IVec S16 32) a x).toNat < S1024.size a) dec) fun q =>
            SparseCore.vectorStoreIdx (sO : Memref sig .scVector .vmem S1024 .f32) (![ix] : Fin 1 → IVec S16 32) v (fun _ => 1#1) false q.down hs >>= k q) Q) := by
  rw [wp_assume_of _ _ _ _ hix]
  have hv : ((sO : Memref sig .scVector .vmem S1024 .f32).access (.whole S1024)).set = Finset.univ :=
    Memref.set_access_whole (cc0_scratch1 : Ref sig .scVector)
  have hr : ((sO : Memref sig .scVector .vmem S1024 .f32).access (.whole S1024)).read (Elt F) g = g :=
    Memref.read_access_whole (Elt F) (cc0_scratch1 : Ref sig .scVector) g
  have hw : ∀ z : Vec F S1024 .f32, ((sO : Memref sig .scVector .vmem S1024 .f32).access (.whole S1024)).write (Elt F) g z Finset.univ = z :=
    fun z => Memref.write_access_whole_univ (Elt F) (cc0_scratch1 : Ref sig .scVector) g z
  have e := SparseCore.wp_vectorStoreIdx (defs := defs₀ (F := F)) (Q := Q) 𝒱₀ (V d (cV L) (jV L)) none Set.univ (base := (sO : Memref sig .scVector .vmem S1024 .f32))
    (idxs := (![ix] : Fin 1 → IVec S16 32)) (v := v) (mask := fun _ => 1#1) (add := false) (h := hix) (hs := hs) (f := g) (k := k ⟨hix⟩)
  rw [hr, hw, hv] at e
  exact e

/-- The two combinations the trip scatters, lane by lane, are the two results of the row of gathered columns. -/
theorem even_lane (v : Fin 16 → Vec F S16 .f32) (p : S16.Idx) :
    k0_pay22 (v 0) (v 1) (v 2) (v 3) (v 4) (v 5) (v 6) (v 7) (v 8) (v 9) (v 10) (v 11) (v 12) (v 13) (v 14) (v 15) p = comp0 fun j => v j p := rfl

/-- Lane `p` of the second signed sum of sixteen columns is `comp1` of that lane's row. -/
theorem odd_lane (v : Fin 16 → Vec F S16 .f32) (p : S16.Idx) :
    k0_pay2 (k0_pay24 (v 0) (v 1)) (k0_pay25 (v 2) (v 3)) (k0_pay26 (v 4) (v 5)) (k0_pay27 (v 6) (v 7)) (k0_pay28 (v 8) (v 9)) (k0_pay29 (v 10) (v 11))
      (k0_pay30 (v 12) (v 13)) (k0_pay31 (v 14) (v 15)) p = comp1 fun j => v j p := rfl

/-- The columns trip `t` gathers. -/
def col (y : Vec F S8192 .f32) (t : Fin k0_t1_loop.trips) (j : Fin 16) : Vec F S16 .f32 :=
  loadIdx y (![addi (k0_pay4 k0_pay1 0#32 1#32 t) (broadcast S16 (BitVec.ofNat 32 j.val))] : Fin 1 → IVec S16 32)
    (col_inb t (BitVec.ofNat 32 j.val) (by have := j.isLt; rw [BitVec.toNat_ofNat]; omega))

/-- Lane `k` of the gathered columns is row `16 t + k`. -/
theorem col_lane (y : Vec F S8192 .f32) (t : Fin k0_t1_loop.trips) (k : ℕ) (hk : k < 16) (hr : 16 * t.val + k < 512) :
    (fun j => col y t j (pos k hk)) = rowOf (R := 512) (N := 8192) rfl y (16 * t.val + k) hr := by
  funext j
  have hj := j.isLt
  refine (gather_col y t (BitVec.ofNat 32 j.val) (by rw [BitVec.toNat_ofNat]; omega) _ k hk hr).trans (congrArg _ (Fin.ext ?_))
  show (BitVec.ofNat 32 j.val).toNat = j.val
  rw [BitVec.toNat_ofNat]; omega

/-- One trip of the loop: results decoded before place `32 t` become results decoded before place `32 (t + 1)`. -/
theorem wp_trip (y : Vec F S8192 .f32) (g : Vec F S1024 .f32) (t : Fin k0_t1_loop.trips) (u : Unit)
    (hg : ∀ p, (p 0).val < 32 * t.val → g p = decode (F := F) (R := 512) (N := 8192) (M := 1024) rfl rfl y p) :
    iprop(rowsAt d L y ∗ resAt d L g)
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scoped0 cc0_scoped1 lanes t u)
          fun _ => iprop(rowsAt d L y ∗ ∃ g', ⌜∀ p, (p 0).val < 32 * (t.val + 1) → g' p = decode (F := F) (R := 512) (N := 8192) (M := 1024) rfl rfl y p⌝ ∗ resAt d L g') := by
  unfold k0_t1_body
  simp only [k0_part1_eq_skeleton, k0_part2_eq_skeleton]
  unfold k0_part1_skel k0_part2_skel
  simp only [Prog.lift, Prog.bind_op, Prog.bind_ret, Prog.pure_eq_ret, Prog.bind_assoc]
  iintro ⟨Hx, Ho⟩
  iapply (wp_gather d L y (col_inb t 0#32 (by decide))) $$ Hx; iintro Hx
  iapply (wp_gather d L y (col_inb t 1#32 (by decide))) $$ Hx; iintro Hx
  iapply (wp_gather d L y (col_inb t 2#32 (by decide))) $$ Hx; iintro Hx
  iapply (wp_gather d L y (col_inb t 3#32 (by decide))) $$ Hx; iintro Hx
  iapply (wp_gather d L y (col_inb t 4#32 (by decide))) $$ Hx; iintro Hx
  iapply (wp_gather d L y (col_inb t 5#32 (by decide))) $$ Hx; iintro Hx
  iapply (wp_gather d L y (col_inb t 6#32 (by decide))) $$ Hx; iintro Hx
  iapply (wp_gather d L y (col_inb t 7#32 (by decide))) $$ Hx; iintro Hx
  iapply (wp_gather d L y (col_inb t 8#32 (by decide))) $$ Hx; iintro Hx
  iapply (wp_gather d L y (col_inb t 9#32 (by decide))) $$ Hx; iintro Hx
  iapply (wp_gather d L y (col_inb t 10#32 (by decide))) $$ Hx; iintro Hx
  iapply (wp_gather d L y (col_inb t 11#32 (by decide))) $$ Hx; iintro Hx
  iapply (wp_gather d L y (col_inb t 12#32 (by decide))) $$ Hx; iintro Hx
  iapply (wp_gather d L y (col_inb t 13#32 (by decide))) $$ Hx; iintro Hx
  iapply (wp_gather d L y (col_inb t 14#32 (by decide))) $$ Hx; iintro Hx
  iapply (wp_gather d L y (col_inb t 15#32 (by decide))) $$ Hx; iintro Hx
  iapply (wp_scatter d L g (res_inb t 0#32 (by decide))) $$ Ho; iintro Ho
  iapply (wp_scatter d L _ (res_inb t 1#32 (by decide))) $$ Ho; iintro Ho
  rw [wp_ret]
  imodintro
  isplitl [Hx]; · iexact Hx
  iexists _
  isplitr [Ho]
  rotate_left
  · iexact Ho
  · ipureintro
    have ht := trip_lt t
    exact trip (R := 512) (N := 8192) (M := 1024) rfl rfl y g t.val (by omega) hg _ _ _ _ _ _
      (fun k hk => res_word t 0#32 (by decide) k hk) (fun k hk => res_word t 1#32 (by decide) k hk)
      (fun k hk => (even_lane (col y t) (pos k hk)).trans (congrArg comp0 (col_lane y t k hk _)))
      (fun k hk => (odd_lane (col y t) (pos k hk)).trans (congrArg comp1 (col_lane y t k hk _)))

end Cert.Proof.Trip

end
-- ==== Proof.Tile.lean ====
/-
  One vector subcore's task. Subcore `s` of SparseCore `c` takes part `2 s + c` of the thirty-two equal parts of the flat input and of
  the flat result: it fetches its 512 rows, runs the thirty-two trips of the loop over them and writes its 1024 results
  out. `tile_body` says that, handed its part of the input at contents `X` and its part of the result, the task ends
  with the input unchanged and its part of the result at the decoding of `X`.
-/
module

public import proofs.«01_k».proof.Defs
public import proofs.«01_k».proof.Proof.Trip
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen
open Cert.Proof.Decode Cert.Proof.Words Cert.Proof.Parts Cert.Proof.Trip

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The rows a task fetches: its part of the input. -/
def fetched (X : Buf (Elt F) (xLoc d)) : Vec F S8192 .f32 := (xPart L).view.read (Elt F) X

/-- A fetch overwrites the whole scratch. -/
theorem write_rows (f w : Vec F S8192 .f32) : (sX : Memref sig .scVector .vmem S8192 .f32).view.write (Elt F) f w Finset.univ = w :=
  View.write_whole_univ (cc0_scratch0 : Ref sig .scVector) f w

/-- Row `r` of the fetched rows is row `512 w + r` of the input, `w` the task's part. -/
theorem fetched_at (X : Buf (Elt F) (xLoc d)) (n : ℕ) (h : n < 8192) :
    fetched d L X (pos n h) = (X : Vec F S262144 .f32) (pos (16 * (512 * (wL L).val) + n) (by have := (wL L).isLt; omega)) := by
  show (X : Vec F S262144 .f32) ((xRect L).emb (pos n h)) = _
  congr 1
  funext a
  obtain rfl : a = 0 := Subsingleton.elim _ _
  refine Fin.ext ?_
  rw [Rect.emb_apply]
  show k0_off1 L 0 + 1 * n = _
  rw [k0_off1_eq]
  show 16384 * (L 1).val + 8192 * (L 0).val + 1 * n = 16 * (512 * (2 * (L 1).val + (L 0).val)) + n
  omega

/-- The decoding of the fetched rows, written out to the task's part of the result, is there the decoding of the input. -/
theorem written_out (X : Buf (Elt F) (xLoc d)) (Y : Buf (Elt F) (oLoc d)) (w : Vec F S1024 .f32)
    (hw : ∀ p, w p = decode (F := F) (R := 512) (N := 8192) (M := 1024) rfl rfl (fetched d L X) p) :
    ∀ i ∈ (oPart L).view.set, (oPart L).view.writes (Elt F) Y [⟨Rect.whole S1024, w⟩] i = G X i := by
  intro i hi
  obtain ⟨p, -, rfl⟩ := Finset.mem_map.mp hi
  have hp : (p 0).val < 1024 := (p 0).isLt
  have e1 : (oPart L).view.writes (Elt F) Y [⟨Rect.whole S1024, w⟩] ((oPart L).view.emb p) = w p := by
    have h := View.write_emb_of_mem (v := (oPart L).view.slice (Rect.whole S1024)) (Val := Elt F) Y w (M := Finset.univ) (x := p) (Finset.mem_univ _)
    have he : ((oPart L).view.slice (Rect.whole S1024)).emb p = (oPart L).view.emb p := congrArg (oPart L).view.emb (show (Rect.whole S1024).emb p = p from Rect.emb_whole_apply S1024 p)
    rw [he] at h
    exact h
  have e2 : ((oRect L).emb p : S32768.Idx) = pos (2 * (512 * (wL L).val) + (p 0).val) (by have := (wL L).isLt; omega) := by
    funext a
    obtain rfl : a = 0 := Subsingleton.elim _ _
    refine Fin.ext ?_
    rw [Rect.emb_apply]
    show k0_off2 L 0 + 1 * (p 0).val = _
    rw [k0_off2_eq]
    show 2048 * (L 1).val + 1024 * (L 0).val + 1 * (p 0).val = 2 * (512 * (2 * (L 1).val + (L 0).val)) + (p 0).val
    omega
  refine e1.trans ((hw p).trans ?_)
  have hs := decode_stretch (F := F) (R := 16384) (N := 262144) (M := 32768) (R' := 512) (N' := 8192) (M' := 1024) rfl rfl rfl rfl X (fetched d L X)
    (512 * (wL L).val) (by have := (wL L).isLt; omega) (fetched_at d L X) (p 0).val hp
  rw [pos_eta] at hs
  exact hs.trans (congrArg (G X) e2.symm)

/-- The loop runs thirty-two trips. -/
theorem trips_eq : k0_t1_loop.trips = 32 := by decide +kernel

/-- The loop's invariant before trip `k`: the fetched rows, and the results decoded at every place before `32 k`. -/
def inv (y : Vec F S8192 .f32) (k : Nat) (_ : Unit) : sProp 𝕄 :=
  iprop(rowsAt d L y ∗ ∃ g, ⌜∀ p, (p 0).val < 32 * k → g p = decode (F := F) (R := 512) (N := 8192) (M := 1024) rfl rfl y p⌝ ∗ resAt d L g)

variable (X : Buf (Elt F) (xLoc d)) (Y : Buf (Elt F) (oLoc d))

/-- One subcore's task: from its part of the flat argument to its part of the flat result decoded, with its scratch, its
    semaphores and what it owes as they were. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xPts d (wL L) X ∗ oPts d (wL L) Y)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__decode_sc L xV (Memref.isWhole_whole _) oV (Memref.isWhole_whole _) sX (Memref.isWhole_whole _) sO (Memref.isWhole_whole _) cc0_scoped0 cc0_scoped1)
          fun _ => iprop((xPts d (wL L) X ∗ oPts d (wL L) (G X))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__decode_sc_eq_skeleton]; unfold cc0__decode_sc_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fx, Hsx⟩, ⟨%fo, Hso⟩, Hbufs⟩, ⟨HsemI, HsemO, Hsems⟩, HO⟩
  ihave Hmw := ((K (F := F)).mayWaits_none (thr := V d (cV L) (jV L)) hO) $$ Hlv
  ihave Hx' := (Entails.of_eq (pts_xPart (F := F) d L _).symm) $$ Hx
  ihave Ho' := (Entails.of_eq (pts_oPart (F := F) d L _).symm) $$ Ho
  ihave Hsx' := (Entails.of_eq (pts_sX (F := F) d L _).symm) $$ Hsx
  ihave Hso' := (Entails.of_eq (pts_sO (F := F) d L _).symm) $$ Hso
  sl_exec
  sl_for (inv d L (fetched d L X)) $$ [Hsx' Hso']
  case region =>
    intro k u
    unfold inv
    iintro ⟨Hx, %g, %hg, Ho⟩
    iapply (wp_trip d L (fetched d L X) g k u hg)
    isplitl [Hx] <;> iassumption
  · unfold inv
    isplitl [Hsx']
    · iapply (Entails.of_eq (congrArg (fun f => rowsAt d L f) (write_rows fx (fetched d L X))))
      iexact Hsx'
    iexists _; isplitr [Hso']
    rotate_left
    · iexact Hso'
    · ipureintro; intro p hp; omega
  iintro %_ HI
  unfold inv
  icases HI with ⟨Hsx, %g, %hg, Hso⟩
  sl_exec
  rw [wp_ret]
  imodintro
  have hall : ∀ p, g p = decode (F := F) (R := 512) (N := 8192) (M := 1024) rfl rfl (fetched d L X) p := fun p => hg p (by
    have hp : (p 0).val < 1024 := (p 0).isLt
    have ht : Scf.trips k0_t1_loop.lb k0_t1_loop.ub k0_t1_loop.st = 32 := trips_eq
    rw [ht]; omega)
  isplitl [Hx' Ho']
  · isplitl [Hx']
    · iapply (Entails.of_eq (pts_xPart (F := F) d L _)); iexact Hx'
    · iapply (Entails.of_eq (pts_oPart (F := F) d L _))
      iapply (Entails.of_eq (pointsTo_congr (written_out d L X Y g hall)))
      iexact Ho'
  isplitl [Hsx Hso Hbufs]
  · isplitl [Hsx]; · iexists _; iexact Hsx
    isplitl [Hso]; · iexists _; iexact Hso
    iexact Hbufs
  isplitl [HsemI HsemO Hsems]
  · isplitl [HsemI]; · iexact HsemI
    isplitl [HsemO]; · iexact HsemO
    iexact Hsems
  iexists _; isplitr [HO]
  rotate_left
  · iexact HO
  · ipureintro; intro p hp
    rcases Finset.mem_insert.mp hp with hp | hp
    · exact .inr (hp ▸ rfl)
    · rcases Finset.mem_insert.mp hp with hp | hp
      · exact .inr (hp ▸ rfl)
      · exact .inl hp

end Cert.Proof.Tile

end
-- ==== Proof.Launch.lean ====
/-
  The whole program. @main flattens its argument, starts the kernel on the thirty-two vector subcores, waits for them and
  gives their flat result its two columns. `run_main` says that every run ends, with the argument as it was, every
  semaphore counter back at zero, and the result at `out`: the flat argument decoded.
-/
module

public import proofs.«01_k».proof.Proof.Tile

@[expose] public section

noncomputable section

namespace Cert.Proof.Launch

open Cert.KernelIdeal Cert.KernelIdeal.Gen
open Cert.Proof.Decode Cert.Proof.Parts Cert.Proof.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

/-- Where the handshakes' own state stands in the ghost state. -/
abbrev EH : Emb UH (MT nD τ sig (HIx 1) (Elt F) ℕ UU ℕ) := embL

variable (m : (ℓ : Loc nD τ sig) → Buf (Elt F) ℓ) (ρ : Dev nD → PrngReg)

/-! ## The values -/

/-- The argument array. -/
abbrev aLoc (d : Dev nD) : Loc nD τ sig := (SparseCore.T d).loc main_arg0
/-- The result array. -/
abbrev rLoc (d : Dev nD) : Loc nD τ sig := (SparseCore.T d).loc main_v2

/-- The flat argument. -/
def flat (d : Dev nD) : Buf (Elt F) (xLoc d) := shapeCast S262144 (m (aLoc d) : Vec F S16384x16 .f32) shapeCasts_S16384x16_S262144

/-- The result. -/
def out (d : Dev nD) : Buf (Elt F) (rLoc d) := shapeCast S16384x2 (G (flat m d) : Vec F S32768 .f32) shapeCasts_S32768_S16384x2

/-! ## What the handshakes carry -/

/-- The call runs on two SparseCores. -/
theorem nCore_zero : (K (F := F)).nCore 0 = 2 := rfl
/-- Each runs sixteen subcores. -/
theorem nSub_zero : (K (F := F)).nSub 0 = 16 := rfl

/-- The part subcore `s` of SparseCore `c` takes. -/
def part (c : Fin 2) (s : Fin 16) : Fin 32 := ⟨2 * s.val + c.val, by have := c.isLt; have := s.isLt; omega⟩

/-- Part `w` of both arrays, before the task and after it. -/
abbrev before (d : Dev nD) (w : Fin 32) : sProp 𝕄 := iprop(xPts d w (flat m d) ∗ oPts d w (m (oLoc d)))
abbrev after (d : Dev nD) (w : Fin 32) : sProp 𝕄 := iprop(xPts d w (flat m d) ∗ oPts d w (G (flat m d)))

/-- The call hands a SparseCore the sixteen parts of its subcores, which it hands on, and takes them back decoded. -/
def P : (K (F := F)).Pay (nD := nD) (Val := Elt F) (Name := ℕ) (U := UU) where
  st := fun q d c => match q with | 0 => bigSep Finset.univ fun s : Fin 16 => before m d (part (Fin.cast nCore_zero c) s)
  dn := fun q d c => match q with | 0 => bigSep Finset.univ fun s : Fin 16 => after m d (part (Fin.cast nCore_zero c) s)
  go := fun q d c i => match q with | 0 => before m d (part (Fin.cast nCore_zero c) (Fin.cast nSub_zero i))
  td := fun q d c i => match q with | 0 => after m d (part (Fin.cast nCore_zero c) (Fin.cast nSub_zero i))
  x := fun _ _ => iprop(emp)

/-- What the handshakes carry can be stored in an invariant. -/
instance P_storable : (P (F := F) m).IsStorable where
  st q d c := match q with
    | 0 => (inferInstance : BI.Storable (upEmb : UEmb _ 𝕄) (bigSep Finset.univ fun s : Fin 16 => before m d (part (Fin.cast nCore_zero c) s)))
  dn q d c := match q with
    | 0 => (inferInstance : BI.Storable (upEmb : UEmb _ 𝕄) (bigSep Finset.univ fun s : Fin 16 => after m d (part (Fin.cast nCore_zero c) s)))
  go q d c i := match q with
    | 0 => (inferInstance : BI.Storable (upEmb : UEmb _ 𝕄) (before m d (part (Fin.cast nCore_zero c) (Fin.cast nSub_zero i))))
  td q d c i := match q with
    | 0 => (inferInstance : BI.Storable (upEmb : UEmb _ 𝕄) (after m d (part (Fin.cast nCore_zero c) (Fin.cast nSub_zero i))))

/-! ## The tasks -/

/-- The place of subcore `s` of SparseCore `c` in the kernel's mesh. -/
def coordsV (c : Fin (grid0.bound 0)) (s : Fin (grid0.bound 1)) : grid0.Coords :=
  fun | 0 => c | 1 => s | ⟨_ + 2, h⟩ => absurd h (Nat.not_lt.2 (Nat.le_add_left _ _))

/-- A subcore's task is the kernel's body at its place. -/
theorem defs₀_vector (c : Fin τ.nSC) (s : Fin τ.nSub) :
    defs₀ (F := F) (.scVector c s) 0 ()
      = SparseCore.onTile hcore0 hsub0 (fun c s => cc0__decode_sc (coordsV c s)
          xV (Memref.isWhole_whole _) oV (Memref.isWhole_whole _)
          sX (Memref.isWhole_whole _) sO (Memref.isWhole_whole _) cc0_scoped0 cc0_scoped1) ⟨⟩ c s := rfl

/-- A task that waited on its own semaphores alone meets the wider condition that the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task turns the part it is handed into the decoded part. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (flat m d) (m (oLoc d)) hF O W hO).trans (wp_mono frame _ _ fun _ => obl_post)

/-- The tasks of a call are counted by `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore hands on just what it is handed, and gives back just what it gets back. -/
theorem vecSplit : (K (F := F)).VecSplit' (P m) 0 := by
  intro d c
  show (bigSep Finset.univ fun s : Fin 16 => before m d (part (Fin.cast nCore_zero c) s)) ⊢ |={Set.univ}=> iprop(
      (bigSep Finset.univ fun i : Fin ((K (F := F)).nSub 0) => before m d (part (Fin.cast nCore_zero c) (Fin.cast nSub_zero i)))
      ∗ ((bigSep Finset.univ fun i : Fin ((K (F := F)).nSub 0) => after m d (part (Fin.cast nCore_zero c) (Fin.cast nSub_zero i)))
          -∗ bigSep Finset.univ fun s : Fin 16 => after m d (part (Fin.cast nCore_zero c) s)))
  rw [bigSep_tasks (F := F) (fun s => before m d (part (Fin.cast nCore_zero c) s)),
    bigSep_tasks (F := F) (fun s => after m d (part (Fin.cast nCore_zero c) s))]
  iintro H; imodintro
  isplitl [H]; · iexact H
  iintro H; iexact H

/-! ## The whole arrays as their thirty-two parts -/

/-- The parts of the flat argument are disjoint. -/
theorem xSet_disjoint : ∀ i ∈ (Finset.univ : Finset (Fin 32)), ∀ j ∈ (Finset.univ : Finset (Fin 32)), i ≠ j → Disjoint (xSet i) (xSet j) :=
  fun _ _ _ _ h => Rect.part_disjoint xdiv h
/-- The parts of the flat result are disjoint. -/
theorem oSet_disjoint : ∀ i ∈ (Finset.univ : Finset (Fin 32)), ∀ j ∈ (Finset.univ : Finset (Fin 32)), i ≠ j → Disjoint (oSet i) (oSet j) :=
  fun _ _ _ _ h => Rect.part_disjoint odiv h
/-- The parts of the flat argument are all of it. -/
theorem xSet_cover : (Finset.univ : Finset (Fin 32)).biUnion xSet = Finset.univ := Rect.biUnion_part xdiv
/-- The parts of the flat result are all of it. -/
theorem oSet_cover : (Finset.univ : Finset (Fin 32)).biUnion oSet = Finset.univ := Rect.biUnion_part odiv

/-- The flat argument is held whole exactly when its parts are. -/
theorem x_parts (d : Dev nD) (f : Buf (Elt F) (xLoc d)) : (xLoc d ↦{fullShare} f : sProp 𝕄) = bigSep Finset.univ fun w => xPts d w f := by
  rw [← pointsTo_biUnion Finset.univ (ℓ := xLoc d) xSet xSet_disjoint, xSet_cover]; try rfl
/-- The flat result is held whole exactly when its parts are. -/
theorem o_parts (d : Dev nD) (f : Buf (Elt F) (oLoc d)) : (oLoc d ↦{fullShare} f : sProp 𝕄) = bigSep Finset.univ fun w => oPts d w f := by
  rw [← pointsTo_biUnion Finset.univ (ℓ := oLoc d) oSet oSet_disjoint, oSet_cover]; try rfl

/-- The thirty-two parts, by SparseCore and subcore. -/
def partEquiv : Fin 2 × Fin 16 ≃ Fin 32 where
  toFun p := part p.1 p.2
  invFun w := (⟨w.val % 2, by omega⟩, ⟨w.val / 2, by have := w.isLt; omega⟩)
  left_inv := fun ⟨c, s⟩ => Prod.ext (Fin.ext (by have := c.isLt; show (2 * s.val + c.val) % 2 = c.val; omega))
    (Fin.ext (by have := c.isLt; show (2 * s.val + c.val) / 2 = s.val; omega))
  right_inv := fun w => Fin.ext (by show 2 * (w.val / 2) + w.val % 2 = w.val; omega)

/-- The thirty-two parts, counted by SparseCore and subcore. -/
theorem by_core (Φ : Fin 32 → sProp 𝕄) :
    (bigSep Finset.univ fun c : Fin ((K (F := F)).nCore 0) => bigSep Finset.univ fun s : Fin 16 => Φ (part (Fin.cast nCore_zero c) s)) = bigSep Finset.univ Φ := by
  rw [bigSep_univ_equiv partEquiv Φ, bigSep_univ_prod]
  rfl

/-- What the call takes for the two SparseCores, and what it brings back: both arrays whole. -/
theorem st0_eq (d : Dev nD) : (bigSep Finset.univ fun c : Fin ((K (F := F)).nCore 0) => (P m).st 0 d c)
    = iprop((xLoc d ↦{fullShare} flat m d) ∗ oLoc d ↦{fullShare} m (oLoc d)) := by
  rw [x_parts, o_parts]
  exact (by_core (before m d)).trans (bigSep_sep' _ _ _)
/-- What the two SparseCores give back is the thirty-two parts, decoded. -/
theorem dn0_eq (d : Dev nD) : (bigSep Finset.univ fun c : Fin ((K (F := F)).nCore 0) => (P m).dn 0 d c)
    = iprop((xLoc d ↦{fullShare} flat m d) ∗ oLoc d ↦{fullShare} G (flat m d)) := by
  rw [x_parts, o_parts]
  exact (by_core (after m d)).trans (bigSep_sep' _ _ _)

/-! ## The launch element -/

/-- Any number of empty resources is the empty one. -/
theorem bigSep_emp' {I : Type} (s : Finset I) : (bigSep s fun _ => iprop(emp)) = (iprop(emp) : sProp 𝕄) := bigSep_emp_const s

/-- The ghost state at the launch. -/
def u₀ : UU := (initOf (K (F := F)).hsCells (K (F := F)).hsToks, 1)

/-- The ghost state at the launch gives the handshakes theirs. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) shapeCasts_S16384x16_S262144
abbrev opOut : HloOp τ sig (Elt F) := StableHlo.reshape main_v1 main_v2 (rfl : (.f32 : EltTy) = .f32) shapeCasts_S32768_S16384x2

/-- The TensorCore's arrays. -/
abbrev S4 : Finset (DevRef τ sig) := {a', x', o', r'}

/-- Holding the four host arrays is holding each. -/
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

/-- The TensorCore's arrays are those four. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch contents; then with the flat argument and the kernel's result in place. -/
def V0 (d : Dev nD) : Valuation τ sig (Elt F) := fun b => m (d, b)
/-- The host arrays after the call: the flat argument and its decoding in place. -/
def V2 (d : Dev nD) : Valuation τ sig (Elt F) := Function.update (Function.update (V0 m d) x' (flat m d)) o' (G (flat m d))

/-- At the launch the four arrays are held at the initial memory. -/
theorem unscoped_held (d : Dev nD) : (unscopedBufs d (fun b => m ((SparseCore.T d).loc b)) : sProp 𝕄) = held (T d) S4 (V0 m d) := by
  rw [unscopedBufs_eq, held_S4]; rfl

/-- The argument is as it was. -/
theorem V2_a (d : Dev nD) : V2 m d a' = m (aLoc d) :=
  (Function.update_of_ne (show a' ≠ o' by decide) _ _).trans (Function.update_of_ne (show a' ≠ x' by decide) _ _)
/-- The flat argument. -/
theorem V2_x (d : Dev nD) : V2 m d x' = flat m d := (Function.update_of_ne (show x' ≠ o' by decide) _ _).trans (Function.update_self _ _ _)
/-- The flat result. -/
theorem V2_o (d : Dev nD) : V2 m d o' = G (flat m d) := Function.update_self _ _ _
/-- The result is not yet written. -/
theorem V2_r (d : Dev nD) : V2 m d r' = m (rLoc d) :=
  (Function.update_of_ne (show r' ≠ o' by decide) _ _).trans (Function.update_of_ne (show r' ≠ x' by decide) _ _)

/-- Flattening the argument writes the flat argument and nothing else. -/
theorem held_in (d : Dev nD) : (held (T d) S4 ((opIn (F := F)).result (V0 m d)) : sProp 𝕄)
    = iprop((aLoc d ↦{fullShare} m (aLoc d)) ∗ (xLoc d ↦{fullShare} flat m d) ∗ (oLoc d ↦{fullShare} m (oLoc d)) ∗ rLoc d ↦{fullShare} m (rLoc d)) := by
  rw [held_S4, (opIn (F := F)).result_of_not_mem (V0 m d) (b := a') (show a' ∉ ({x'} : Finset (DevRef τ sig)) by decide),
    (opIn (F := F)).result_of_not_mem (V0 m d) (b := o') (show o' ∉ ({x'} : Finset (DevRef τ sig)) by decide),
    (opIn (F := F)).result_of_not_mem (V0 m d) (b := r') (show r' ∉ ({x'} : Finset (DevRef τ sig)) by decide),
    show (opIn (F := F)).result (V0 m d) x' = flat m d from StableHlo.reshape_result _ _ _ _ _ _ _]
  rfl

/-- Giving the kernel's result its two columns writes the result, the argument left as it was. -/
theorem held_out (d : Dev nD) : (held (T d) S4 ((opOut (F := F)).result (V2 m d)) : sProp 𝕄)
    = iprop((aLoc d ↦{fullShare} m (aLoc d)) ∗ (xLoc d ↦{fullShare} flat m d) ∗ (oLoc d ↦{fullShare} G (flat m d)) ∗ rLoc d ↦{fullShare} out m d) := by
  rw [held_S4, (opOut (F := F)).result_of_not_mem (V2 m d) (b := a') (show a' ∉ ({r'} : Finset (DevRef τ sig)) by decide),
    (opOut (F := F)).result_of_not_mem (V2 m d) (b := x') (show x' ∉ ({r'} : Finset (DevRef τ sig)) by decide),
    (opOut (F := F)).result_of_not_mem (V2 m d) (b := o') (show o' ∉ ({r'} : Finset (DevRef τ sig)) by decide), V2_a, V2_x, V2_o,
    show (opOut (F := F)).result (V2 m d) r' = out m d from
      (StableHlo.reshape_result _ _ _ _ _ _ _).trans (congrArg (fun f : Vec F S32768 .f32 => (shapeCast S16384x2 f shapeCasts_S32768_S16384x2 : Buf (Elt F) (rLoc d))) (V2_o m d))]

/-- The first reshape touches these arrays only. -/
theorem hIn : (opIn (F := F)).bufs ⊆ S4 := show ({a', x'} : Finset (DevRef τ sig)) ⊆ S4 by decide
/-- So does the second. -/
theorem hOut : (opOut (F := F)).bufs ⊆ S4 := show ({o', r'} : Finset (DevRef τ sig)) ⊆ S4 by decide

/-- What @main leaves the claim: the argument as it was, and the result. -/
abbrev FIN (d : Dev nD) : sProp 𝕄 := iprop((aLoc d ↦{fullShare} m (aLoc d)) ∗ rLoc d ↦{fullShare} out m d)

/-- @main: from the initial memory to the result at `out` and the argument unchanged. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- flatten the argument
  iapply (wp_hlo_within 𝒱 (SparseCore.T d) none Set.univ (op := opIn) (S := S4) hIn (V := V0 m d)) $$ [Hb Hheld]
  · isplitl [Hb] <;> iassumption
  iintro ⟨Hb, Hheld⟩
  ihave Hh := (Entails.of_eq (held_in (F := F) m d)) $$ Hheld
  icases Hh with ⟨Ha, Hx, Ho, Hr⟩
  rw [wp_ret]; imodintro
  -- the call: both flat arrays to the SparseCores and back
  iapply ((K (F := F)).wp_run (D (F := F)) 𝒱 (EH := EH) (P := P m) κ d 0) $$ [Hst Ha Hx Ho Hb Hr Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  icases Hdn' with ⟨Hx, Ho⟩
  -- the result's two columns
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_out (F := F) m d)) $$ Hheld
  icases Hh with ⟨Ha, -, -, Hr⟩
  rw [wp_ret]; imodintro; imodintro
  isplitl [Hst]; · iexact Hst
  isplitr [Hb Hts]
  · isplitl [Ha] <;> iassumption
  isplitl [Hb] <;> iassumption

/-- What a final state shows of a device: the result at `out`, the argument unchanged. -/
def fq (d : Dev nD) (s' : Phys nD τ sig (Elt F)) : Prop := s'.mem.mem (rLoc d) = out m d ∧ s'.mem.mem (aLoc d) = m (aLoc d)

/-- What @main ends with says that of the final state. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := out m d)) $$ [HSI Hr]
  · isplitl [HSI] <;> iassumption
  icases H with %h2
  ipureintro; exact ⟨funext fun i => h2 i (Finset.mem_univ i), funext fun i => h1 i (Finset.mem_univ i)⟩

/-! ## The run -/

/-- How a run ends: the result at `out`, the argument as it was, every semaphore counter at zero. -/
def QC : PUnit × MemSt nD τ sig (Elt F) → Prop := fun r =>
  (∀ c : Dev nD, r.2.mem (rLoc c) = out m c ∧ r.2.mem (aLoc c) = m (aLoc c)) ∧ r.2.sem = fun _ => 0

/-- Every run from zero counters ends, with the result at `out`, the argument unchanged and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Frames.lean ====
/-
  The frames: the kernel's run at bit patterns and at extended reals, and the reference's, each end with the argument
  unchanged and every semaphore counter at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof.Frames

open Idealize.ShloMosaic Idealize.SL.Sem

/-- The kernel at bit patterns keeps its argument and ends quiescent. Its program is the one the run is proved for at any
    floats. -/
theorem kernel : Cert.quiescent_Kernel := fun m ρ _ =>
  (θ_run Cert.Kernel.defs _ _).mono (fun _ h => ⟨fun c => (h.1 c).2, h.2⟩) (Launch.run_main (F := Bits) m ρ)

/-- The kernel at extended reals keeps its argument and ends quiescent. -/
theorem kernelIdeal : Cert.quiescent_KernelIdeal := fun m ρ _ =>
  (θ_run Cert.KernelIdeal.defs _ _).mono (fun _ h => ⟨fun c => (h.1 c).2, h.2⟩) (Launch.run_main (F := Ideal) m ρ)

/-- The reference is a line of host operations, which keeps its argument and declares no semaphore. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Frames

end
-- ==== Proof.Reference.lean ====
/-
  The reference read at an index. Its result at row `r` and position `i` is the sum of eight named entries of row `r` of
  its argument minus the sum of the other eight: which eight is the position's pair of index tables.
-/
module

public import proofs.«01_k».proof.Proof.Gen.ReferenceIdeal.Run
public import Idealize.ShloMosaic.Lib.IdealHost
public import Idealize.ShloMosaic.Lib.ReduceAll
public import Idealize.ShloMosaic.Lib.ValueLayout
public import Idealize.ShloMosaic.Lib.WordCmp
public import Idealize.ShloMosaic.Lib.Pointwise.Reshape
public import Idealize.ShloMosaic.Lib.Pointwise.SelectCore

@[expose] public section

noncomputable section

namespace Cert.Proof.Reference

open Cert.ReferenceIdeal Cert.ReferenceIdeal.Gen
open Idealize.ShloMosaic hiding ix1 ix2
open Idealize.ShloMosaic.TcCoe Idealize.ShloMosaic.ValueIdx
open Idealize.ShloMosaic.WordCmp (cmpi_slt_eq cmpi_sle_eq cmpi_sge_eq)
open scoped BigOperators

/-! ## The take of eight columns -/

/-- The index table as start indices: a negative entry counts from the end. -/
def starts (t : Fin 8 → BitVec 32) : IVec S8x1 32 :=
  broadcastInDim S8x1 ![0] bcast_S8_S8x1_0
    (select (cmpi .slt (fun i => t (S8.rowMajor i)) (broadcastInDim S8 ![] bcast_S_S8 (constantI S_ 32 0#32)))
      (addi (fun i => t (S8.rowMajor i)) (broadcastInDim S8 ![] bcast_S_S8 (constantI S_ 32 16#32)))
      (fun i => t (S8.rowMajor i)))

/-- Which of the eight start indices name a column. -/
def inside (t : Fin 8 → BitVec 32) : IVec S8 1 :=
  Host.reduce IntOp.andi
    (andi (cmpi .sge (starts t) (broadcastInDim S8x1 ![] bcast_S_S8x1 (constantI S_ 32 0#32)))
      (cmpi .sle (starts t)
        (broadcastInDim S8x1 ![0, 1] bcast_S1x1_S8x1_0_1 (broadcastInDim S1x1 ![1] bcast_S1_S1x1_1 (constantI S1 32 15#32)))))
    (constantI S_ 1 1#1) reducesTo_S8x1_S8_d1 h_S_

/-- The columns of `x` the table names, in the table's order, and a fill value for an entry that names none. -/
def take (x : FVec Ideal S16384x16 .f32) (t : Fin 8 → BitVec 32) : FVec Ideal S16384x8 .f32 :=
  select (broadcastInDim S16384x8 ![1] bcast_S8_S16384x8_1 (inside t))
    (Host.gather gather_S16384x16_S8x1_S16384x8_0_1_n_n_1_1_163841 x (starts t))
    (broadcastInDim S16384x8 ![] bcast_S_S16384x8 (constant S_ .f32 0x7FC00000#32))

/-- The sums of the columns of `x` named by `t` minus those of the columns named by `u`. -/
def differ (x : FVec Ideal S16384x16 .f32) (t u : Fin 8 → BitVec 32) : FVec Ideal S16384 .f32 :=
  subf (Host.reduceAdd (take x t) (constant S_ .f32 0x00000000#32) reducesTo_S16384x8_S16384_d1 h_S_)
    (Host.reduceAdd (take x u) (constant S_ .f32 0x00000000#32) reducesTo_S16384x8_S16384_d1 h_S_)

/-- The reference's result: two such differences of its argument, stacked and transposed. -/
theorem res_eq (m : (ℓ : Loc nD τ sig) → Buf (Elt Ideal) ℓ) (c : Dev nD) :
    Value.res_main_v13 (F := Ideal) m c
      = transpose S16384x2 [1, 0]
          (concatenate S2x16384 0
            [⟨S1x16384, broadcastInDim S1x16384 ![1] bcast_S16384_S1x16384_1 (differ (m ((c.tc : Thread nD τ).loc main_arg0)) lit0 lit1)⟩,
              ⟨S1x16384, broadcastInDim S1x16384 ![1] bcast_S16384_S1x16384_1 (differ (m ((c.tc : Thread nD τ).loc main_arg0)) lit2 lit3)⟩]
            concatenates_S1x16384_S1x16384_S2x16384_d0) transposes_S2x16384_S16384x2_1_0 := rfl

/-! ## The take at an index -/

variable (t u : Fin 8 → BitVec 32) (ht : ∀ k, (t k).toNat < 16) (hu : ∀ k, (u k).toNat < 16)

/-- A word below sixteen is not negative, and is at most fifteen. -/
theorem word_inside (w : BitVec 32) (h : w.toNat < 16) :
    IntOp.cmpi .slt w 0#32 = 0#1 ∧ IntOp.cmpi .sge w 0#32 = 1#1 ∧ IntOp.cmpi .sle w 15#32 = 1#1 ∧ w.toInt.toNat = w.toNat := by
  have e : w.toInt = w.toNat := BitVec.toInt_eq_toNat_of_lt (by omega)
  refine ⟨?_, ?_, ?_, by omega⟩
  · rw [cmpi_slt_eq, decide_eq_false (by rw [e]; show ¬ ((w.toNat : ℤ) < 0); omega)]; rfl
  · rw [cmpi_sge_eq, decide_eq_true (by rw [e]; show ((0 : ℤ) ≤ w.toNat); omega)]; rfl
  · rw [cmpi_sle_eq, decide_eq_true (by rw [e]; show ((w.toNat : ℤ) ≤ 15); omega)]; rfl

include ht in
/-- A table entry below sixteen is its own start index. -/
theorem starts_apply (i : S8x1.Idx) : starts t i = t ⟨(i 0).val, idx2_lt0 i⟩ := by
  unfold starts
  rw [broadcastInDim_apply (k := ix1 ⟨(i 0).val, idx2_lt0 i⟩) (hk := fun a => by obtain rfl : a = 0 := Subsingleton.elim _ _; rfl)]
  rw [select_apply]
  have e : S8.rowMajor (ix1 ⟨(i 0).val, idx2_lt0 i⟩) = (⟨(i 0).val, idx2_lt0 i⟩ : Fin 8) :=
    Fin.ext (rowMajor_val1 ..)
  show Scalar.select (IntOp.cmpi .slt (t (S8.rowMajor _)) 0#32) _ (t (S8.rowMajor _)) = _
  rw [e, (word_inside _ (ht _)).1, ValueIdx.select_zero]

include ht in
/-- Every entry of such a table names a column. -/
theorem inside_apply (k : S8.Idx) : inside t k = 1#1 := by
  unfold inside
  refine Host.reduce_andi_one _ _ _ _ _ rfl fun i => ?_
  show IntOp.andi (IntOp.cmpi .sge (starts t i) 0#32) (IntOp.cmpi .sle (starts t i) 15#32) = 1#1
  rw [starts_apply t ht, (word_inside _ (ht _)).2.1, (word_inside _ (ht _)).2.2.1]
  rfl

include ht in
/-- The gather of whole columns at `(r, k)`: the operand at row `r` of the column the table's entry `k` names. -/
theorem gather_apply (x : FVec Ideal S16384x16 .f32) (r : Fin 16384) (k : Fin 8) :
    Host.gather gather_S16384x16_S8x1_S16384x8_0_1_n_n_1_1_163841 x (starts t) (ix2 r k) = x (ix2 r ⟨(t k).toNat, ht k⟩) := by
  set d := gather_S16384x16_S8x1_S16384x8_0_1_n_n_1_1_163841 with hd
  unfold Host.gather
  refine congrArg x (funext fun a => Fin.ext ?_)
  show d.start (ix2 r k) (starts t) a + d.batchCoord (ix2 r k) a + d.offCoord (ix2 r k) a = _
  rw [GatherDims.batchCoord_eq_zero _ _ _ List.not_mem_nil]
  have h01 : a = 0 ∨ a = 1 := match a with
    | ⟨0, _⟩ => Or.inl rfl
    | ⟨1, _⟩ => Or.inr rfl
  rcases h01 with rfl | rfl
  · unfold GatherDims.start
    rw [dif_neg (show (0 : Fin 2) ∉ d.startIndexMap by decide)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ d.startIndexMap from List.mem_singleton.mpr rfl), starts_apply t ht,
      (word_inside _ (ht _)).2.2.2]
    show min (t k).toNat 15 + 0 + 0 = (t k).toNat
    have e : (t k).toNat < 16 := ht k
    simp only [Nat.add_zero]
    exact min_eq_left (by omega)

include ht in
/-- The take at `(r, k)`. -/
theorem take_apply (x : FVec Ideal S16384x16 .f32) (r : Fin 16384) (k : Fin 8) :
    take x t (ix2 r k) = x (ix2 r ⟨(t k).toNat, ht k⟩) := by
  unfold take
  rw [select_apply, gather_apply t ht]
  rw [broadcastInDim_apply (k := ix1 k) (hk := fun a => by obtain rfl : a = 0 := Subsingleton.elim _ _; rfl),
    inside_apply t ht, ValueIdx.select_one]

/-- The take's columns are the one axis summed away. -/
theorem reduces : S16384x8.Reduces [1] S16384 := by decide

include ht in
/-- The sum over the taken columns, at row `r`. -/
theorem sum_apply (x : FVec Ideal S16384x16 .f32) (r : Fin 16384) :
    Host.reduceAdd (take x t) (constant S_ .f32 0x00000000#32) reducesTo_S16384x8_S16384_d1 h_S_ (ix1 r)
      = ∑ k : Fin 8, x (ix2 r ⟨(t k).toNat, ht k⟩) := by
  rw [hostReduceAdd_apply, Ideal.hostReduceAdd_single _ reduces]
  show Ideal.ofBits .f32 0x00000000#32 + _ = _
  rw [Ideal.ofBits_zero_f32, zero_add]
  refine Finset.sum_congr rfl fun k _ => ?_
  rw [← take_apply t ht x r k]
  refine congrArg (take x t) (funext fun a => Fin.ext ?_)
  match a with
  | ⟨0, _⟩ => rfl
  | ⟨1, _⟩ => rfl

include ht hu in
/-- The difference of sums, at row `r`. -/
theorem differ_apply (x : FVec Ideal S16384x16 .f32) (r : Fin 16384) :
    differ x t u (ix1 r) = ((∑ k : Fin 8, x (ix2 r ⟨(t k).toNat, ht k⟩)) - ∑ k : Fin 8, x (ix2 r ⟨(u k).toNat, hu k⟩) : EReal) := by
  rw [← sum_apply t ht, ← sum_apply u hu]
  rfl

/-! ## The result at an index -/

/-- The first table names columns. -/
theorem lit0_lt : ∀ k, (lit0 k).toNat < 16 := by decide
/-- So does the second. -/
theorem lit1_lt : ∀ k, (lit1 k).toNat < 16 := by decide
/-- So does the third. -/
theorem lit2_lt : ∀ k, (lit2 k).toNat < 16 := by decide
/-- So does the fourth. -/
theorem lit3_lt : ∀ k, (lit3 k).toNat < 16 := by decide

variable (m : (ℓ : Loc nD τ sig) → Buf (Elt Ideal) ℓ) (c : Dev nD)

/-- The reference's first result of row `r`. -/
theorem res_apply0 (r : Fin 16384) :
    Value.res_main_v13 (F := Ideal) m c (ix2 r (0 : Fin 2)) = differ (m ((c.tc : Thread nD τ).loc main_arg0)) lit0 lit1 (ix1 r) := by
  rw [res_eq, transpose_ix2_apply, concatenate_pair_apply]
  refine (dif_pos (show (0 : ℕ) < 1 by omega)).trans ?_
  exact broadcastInDim_apply _ _ _ _ (ix1 r) fun a => by obtain rfl : a = 0 := Subsingleton.elim _ _; rfl

/-- The reference's second result of row `r`. -/
theorem res_apply1 (r : Fin 16384) :
    Value.res_main_v13 (F := Ideal) m c (ix2 r (1 : Fin 2)) = differ (m ((c.tc : Thread nD τ).loc main_arg0)) lit2 lit3 (ix1 r) := by
  rw [res_eq, transpose_ix2_apply, concatenate_pair_apply]
  refine (dif_neg (show ¬ (1 : ℕ) < 1 by omega)).trans ?_
  exact broadcastInDim_apply _ _ _ _ (ix1 r) fun a => by obtain rfl : a = 0 := Subsingleton.elim _ _; rfl

end Cert.Proof.Reference

end
-- ==== Proof.Sums.lean ====
/-
  The mathematics. On a row of sixteen finite extended reals the two signed sums, however they are grouped, are each the
  sum of eight entries minus the sum of the other eight. On infinite entries they are not (`infinite_differs`), which is
  why the value claim takes its argument finite.
-/
module

public import proofs.«01_k».proof.Proof.Decode
public import proofs.«01_k».proof.ReferenceIdeal
public import Idealize.ShloMosaic.PureOps.Ideal.Laws
public import Mathlib.Tactic.Ring

@[expose] public section

noncomputable section

namespace Cert.Proof.Sums

open Idealize.ShloMosaic
open Cert.ReferenceIdeal (lit0 lit1 lit2 lit3)
open Cert.Proof.Decode
open scoped BigOperators

/-- A row of extended reals none of which is infinite is a row of reals. -/
theorem exists_real (c : Fin 16 → EReal) (h : ∀ j, c j ≠ ⊤ ∧ c j ≠ ⊥) : ∃ a : Fin 16 → ℝ, c = fun j => (a j : EReal) :=
  ⟨fun j => (c j).toReal, funext fun j => (EReal.coe_toReal (h j).1 (h j).2).symm⟩

/-- The first signed sum of a finite row: entries 0–3 and 12–15, minus entries 4–11. -/
theorem comp0_eq (c : Fin 16 → EReal) (h : ∀ j, c j ≠ ⊤ ∧ c j ≠ ⊥) (h0 : ∀ k, (lit0 k).toNat < 16) (h1 : ∀ k, (lit1 k).toNat < 16) :
    comp0 (F := Ideal) c = (∑ k : Fin 8, c ⟨(lit0 k).toNat, h0 k⟩) - ∑ k : Fin 8, c ⟨(lit1 k).toNat, h1 k⟩ := by
  obtain ⟨a, rfl⟩ := exists_real c h
  rw [Fin.sum_univ_eight, Fin.sum_univ_eight]
  show (((a 0 : EReal) + a 1 + (a 2 + a 3) - (a 4 + a 5 + (a 6 + a 7))) + (a 12 + a 13 + (a 14 + a 15) - (a 8 + a 9 + (a 10 + a 11))) : EReal)
    = (a 0 + a 1 + a 2 + a 3 + a 12 + a 13 + a 14 + a 15) - (a 4 + a 5 + a 6 + a 7 + a 8 + a 9 + a 10 + a 11)
  simp only [← EReal.coe_add, ← EReal.coe_sub]
  congr 1
  ring

/-- With an infinity of each sign among its entries a row's first signed sum need not be the difference of sums. -/
theorem infinite_differs (h0 : ∀ k, (lit0 k).toNat < 16) (h1 : ∀ k, (lit1 k).toNat < 16) : ∃ c : Fin 16 → EReal,
    comp0 (F := Ideal) c ≠ (∑ k : Fin 8, c ⟨(lit0 k).toNat, h0 k⟩) - ∑ k : Fin 8, c ⟨(lit1 k).toNat, h1 k⟩ := by
  refine ⟨fun j => if j = 4 then ⊤ else if j = 8 then ⊥ else 0, ?_⟩
  rw [Fin.sum_univ_eight, Fin.sum_univ_eight]
  show ((0 : EReal) + 0 + (0 + 0) - (⊤ + 0 + (0 + 0))) + (0 + 0 + (0 + 0) - (⊥ + 0 + (0 + 0)))
    ≠ (0 + 0 + 0 + 0 + 0 + 0 + 0 + 0) - (⊤ + 0 + 0 + 0 + ⊥ + 0 + 0 + 0)
  simp

/-- The second signed sum of a finite row: in each group of four the outer two minus the inner two. -/
theorem comp1_eq (c : Fin 16 → EReal) (h : ∀ j, c j ≠ ⊤ ∧ c j ≠ ⊥) (h2 : ∀ k, (lit2 k).toNat < 16) (h3 : ∀ k, (lit3 k).toNat < 16) :
    comp1 (F := Ideal) c = (∑ k : Fin 8, c ⟨(lit2 k).toNat, h2 k⟩) - ∑ k : Fin 8, c ⟨(lit3 k).toNat, h3 k⟩ := by
  obtain ⟨a, rfl⟩ := exists_real c h
  rw [Fin.sum_univ_eight, Fin.sum_univ_eight]
  show (((a 0 : EReal) - a 1 + (a 3 - a 2) + (a 4 - a 5 + (a 7 - a 6))) + (a 8 - a 9 + (a 11 - a 10) + (a 12 - a 13 + (a 15 - a 14))) : EReal)
    = (a 0 + a 3 + a 4 + a 7 + a 8 + a 11 + a 12 + a 15) - (a 1 + a 2 + a 5 + a 6 + a 9 + a 10 + a 13 + a 14)
  simp only [← EReal.coe_add, ← EReal.coe_sub]
  congr 1
  ring

end Cert.Proof.Sums

end
-- ==== Proof.Finite.lean ====
/-
  The precondition read: where it holds, no entry of the argument is infinite.
-/
module

public import proofs.«01_k».proof.Proof.Gen.Pre_finite
public import Idealize.ShloMosaic.Lib.IdealHost
public import Idealize.ShloMosaic.Lib.ReduceAll

@[expose] public section

noncomputable section

namespace Cert.Proof.Finite

open Idealize.ShloMosaic

/-- The pattern the precondition compares with is the extended real `⊤`. -/
theorem bound_eq : Ideal.ofBits .f32 0x7F800000#32 = ⊤ := by simp [Ideal.ofBits, Ideal.ieee]

/-- An extended real whose absolute value is below `⊤` is neither infinity. -/
theorem not_infinite (x : EReal) (h : Ideal.cmp .olt (max x (-x)) ⊤ = 1#1) : x ≠ ⊤ ∧ x ≠ ⊥ := by
  constructor <;> rintro rfl <;> simp [Ideal.cmp] at h

/-- A scalar has one index. -/
instance : Subsingleton Cert.Pre_finite.S_.Idx := ⟨fun a b => funext fun i => i.elim0⟩

/-- Where the precondition is one, no entry is infinite. -/
theorem entry (x : FVec Ideal Cert.Pre_finite.S16384x16 .f32) (h : Cert.Pre_finite.fn (F := Ideal) x = fun _ => 1#1)
    (i : Cert.Pre_finite.S16384x16.Idx) : (x i : EReal) ≠ ⊤ ∧ (x i : EReal) ≠ ⊥ := by
  have e := Host.reduce_andi_all _ _ _ _ _ (congrFun h ValueIdx.ix0) i
  refine not_infinite _ ?_
  rw [← bound_eq]
  exact e

end Cert.Proof.Finite

end
-- ==== Proof.Value.lean ====
/-
  The kernel's result at an index, and the two results equal: at row `r` and position `i` the kernel leaves `comp i` of
  row `r` of its argument, and where the argument is finite that is the reference's difference of sums.
-/
module

public import proofs.«01_k».proof.Defs
public import proofs.«01_k».proof.Proof.Launch
public import proofs.«01_k».proof.Proof.Reference
public import proofs.«01_k».proof.Proof.Sums
public import proofs.«01_k».proof.Proof.Finite

@[expose] public section

noncomputable section

namespace Cert.Proof.Value

open Idealize.ShloMosaic hiding ix1 ix2
open Idealize.ShloMosaic.TcCoe Idealize.ShloMosaic.ValueIdx Idealize.SL.Sem
open Cert.KernelIdeal Cert.KernelIdeal.Gen
open Cert.Proof.Decode Cert.Proof.Parts Cert.Proof.Launch

section
variable {F : FTy → Type} [FloatOps F] (m : (ℓ : Loc nD τ sig) → Buf (Elt F) ℓ) (d : Dev nD)

omit [FloatOps F] in
/-- A table of rows of sixteen, flattened, at `16 r + j` is the table at `(r, j)`. -/
theorem flatten_apply (x : Vec F S16384x16 .f32) (r : Fin 16384) (j : Fin 16) (h : 16 * r.val + j.val < 262144) :
    (shapeCast S262144 x shapeCasts_S16384x16_S262144 : Vec F S262144 .f32) (pos (16 * r.val + j.val) h) = x (ix2 r j) := by
  refine shapeCast_apply x _ _ (ix2 r j) ?_
  rw [rowMajor_val1, rowMajor_val2 _ 16 rfl]
  show r.val * 16 + j.val = 16 * r.val + j.val
  omega

omit [FloatOps F] in
/-- A flat array given two columns, at `(r, i)`, is the array at `2 r + i`. -/
theorem columns_apply (z : Vec F S32768 .f32) (r : Fin 16384) (i : Fin 2) (h : 2 * r.val + i.val < 32768) :
    (shapeCast S16384x2 z shapeCasts_S32768_S16384x2 : Vec F S16384x2 .f32) (ix2 r i) = z (pos (2 * r.val + i.val) h) := by
  refine shapeCast_apply z _ _ (pos (2 * r.val + i.val) h) ?_
  rw [rowMajor_val1, rowMajor_val2 _ 2 rfl]
  show 2 * r.val + i.val = r.val * 2 + i.val
  omega

/-- The decoding of a flattened table at `2 r + i` is `comp i` of the table's row `r`. -/
theorem decode_flatten (x : Vec F S16384x16 .f32) (r : Fin 16384) (i : Fin 2) (h : 2 * r.val + i.val < 32768) :
    decode (R := 16384) (N := 262144) (M := 32768) rfl rfl (shapeCast S262144 x shapeCasts_S16384x16_S262144) (pos (2 * r.val + i.val) h)
      = comp i.val fun j => x (ix2 r j) := by
  have hr := r.isLt
  have hi := i.isLt
  show comp ((2 * r.val + i.val) % 2) (rowOf _ _ ((2 * r.val + i.val) / 2) _) = _
  rw [show (2 * r.val + i.val) % 2 = i.val by omega]
  congr 1
  funext j
  rw [← flatten_apply x r j (by have := j.isLt; omega)]
  unfold rowOf
  exact congrArg (shapeCast S262144 x shapeCasts_S16384x16_S262144 : Vec F S262144 .f32) (funext fun a => Fin.ext (by
    obtain rfl : a = 0 := Subsingleton.elim _ _
    show 16 * ((2 * r.val + i.val) / 2) + j.val = 16 * r.val + j.val
    omega))

/-- The kernel's result at `(r, i)` is `comp i` of row `r` of its argument. -/
theorem out_apply (r : Fin 16384) (i : Fin 2) :
    (out m d : Vec F S16384x2 .f32) (ix2 r i) = comp i.val fun j => (m (aLoc d) : Vec F S16384x16 .f32) (ix2 r j) :=
  have h : 2 * r.val + i.val < 32768 := by have := r.isLt; have := i.isLt; omega
  (columns_apply (G (flat m d)) r i h).trans (decode_flatten (m (aLoc d)) r i h)
end

/-- Where the argument is finite, the kernel's result is the reference's. -/
theorem out_eq (m : (ℓ : Loc nD τ sig) → Buf (Elt Ideal) ℓ) (hm : Cert.Pre_KernelIdeal_finite m)
    (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m (aLoc c)) :
    (Cert.ReferenceIdeal.Value.res_main_v13 (F := Ideal) m' c : Vec Ideal S16384x2 .f32) = (out m c : Vec Ideal S16384x2 .f32) := by
  have hf := Finite.entry (m (aLoc c)) (hm c)
  funext y
  obtain ⟨r, i, rfl⟩ : ∃ (r : Fin 16384) (i : Fin 2), y = ix2 r i := ⟨y 0, y 1, ValueIdx.eq_ix2 y⟩
  rw [out_apply]
  match i with
  | ⟨0, _⟩ =>
    refine (Reference.res_apply0 m' c r).trans ?_
    rw [Reference.differ_apply _ _ Reference.lit0_lt Reference.lit1_lt, h]
    exact (Sums.comp0_eq _ (fun j => hf _) Reference.lit0_lt Reference.lit1_lt).symm
  | ⟨1, _⟩ =>
    refine (Reference.res_apply1 m' c r).trans ?_
    rw [Reference.differ_apply _ _ Reference.lit2_lt Reference.lit3_lt, h]
    exact (Sums.comp1_eq _ (fun j => hf _) Reference.lit2_lt Reference.lit3_lt).symm

/-- From any two memories that agree on a finite argument, both programs end with one and the same result, and with the
    argument unchanged. -/
theorem algebraic : Cert.algebraic_KernelIdeal_ReferenceIdeal_pre_finite := fun m g m' g' hm hag =>
  ⟨fun c => out m c,
    (θ_run Cert.KernelIdeal.defs _ _).mono (fun _ h => h.1) (run_main (F := Ideal) m g),
    (θ_run Cert.ReferenceIdeal.defs _ _).mono (fun _ h c => ⟨(h c).1.trans (out_eq m hm m' c (hag c)), (h c).2⟩)
      (Cert.ReferenceIdeal.Value.run (F := Ideal) m' g')⟩

end Cert.Proof.Value

end
-- ==== Proof.lean ====
/-
  The certificate. Proof/Decode.lean says what the kernel computes of a flat array of rows, and Proof/Words.lean reads its
  index words; Proof/Parts.lean cuts the arrays into the thirty-two stretches, one to a vector subcore; Proof/Trip.lean is one
  trip of the loop, Proof/Tile.lean one subcore's task, Proof/Launch.lean the whole program. Proof/Reference.lean reads the
  reference at an index, Proof/Sums.lean compares the two sums, Proof/Finite.lean reads the precondition. Proof/Frames.lean
  and Proof/Value.lean state the claims, put together here.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Value

@[expose] public section

noncomputable section

namespace Cert.Proof

/-- All the claims: the three frames (also where the argument is finite), the idealization, and the equality of the
    kernel's and the reference's results over the extended reals. -/
theorem claim : Cert.Claim :=
  ⟨Cert.Kernel.Gen.facts, Cert.KernelIdeal.Gen.facts, Cert.ReferenceIdeal.Gen.facts, Cert.Pre_finite.Gen.facts,
    Frames.kernel, Frames.kernelIdeal, fun m g _ => Frames.kernelIdeal m g trivial,
    Frames.referenceIdeal, fun m g _ => Frames.referenceIdeal m g trivial,
    trivial, Value.algebraic⟩

end Cert.Proof

end
